-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_gate [hPre_finite_gate : Cert.Pre_finite_gate.Facts] (m : (ℓ : Loc Cert.KernelIdeal.nD Cert.KernelIdeal.τ Cert.KernelIdeal.sig) → Buf (Elt Ideal) ℓ) : Prop :=
  ∀ c : Dev Cert.KernelIdeal.nD,
    (Cert.Pre_finite_gate.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 = (fun _ => 1#1)
    ∧ (Cert.Pre_finite_gate.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 = (fun _ => 1#1)
    ∧ (Cert.Pre_finite_gate.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.1 = (fun _ => 1#1)
    ∧ (Cert.Pre_finite_gate.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_gate [hPre_finite_gate : Cert.Pre_finite_gate.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_gate.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).1 = (fun _ => 1#1)
    ∧ (Cert.Pre_finite_gate.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.1 = (fun _ => 1#1)
    ∧ (Cert.Pre_finite_gate.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.1 = (fun _ => 1#1)
    ∧ (Cert.Pre_finite_gate.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite_gate [hKernelIdeal : Cert.KernelIdeal.Facts] [hPre_finite_gate : Cert.Pre_finite_gate.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_gate m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite_gate [hReferenceIdeal : Cert.ReferenceIdeal.Facts] [hPre_finite_gate : Cert.Pre_finite_gate.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_gate m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_finite_gate [hKernelIdeal : Cert.KernelIdeal.Facts] [hReferenceIdeal : Cert.ReferenceIdeal.Facts] [hPre_finite_gate : Cert.Pre_finite_gate.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_gate m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_gate : Cert.Pre_finite_gate.Facts),
    quiescent_Kernel (hKernel := hKernel)
    ∧ quiescent_KernelIdeal (hKernelIdeal := hKernelIdeal)
    ∧ quiescent_KernelIdeal_pre_finite_gate (hKernelIdeal := hKernelIdeal) (hPre_finite_gate := hPre_finite_gate)
    ∧ quiescent_ReferenceIdeal (hReferenceIdeal := hReferenceIdeal)
    ∧ quiescent_ReferenceIdeal_pre_finite_gate (hReferenceIdeal := hReferenceIdeal) (hPre_finite_gate := hPre_finite_gate)
    ∧ preserves_Kernel_KernelIdeal
    ∧ algebraic_KernelIdeal_ReferenceIdeal_pre_finite_gate (hKernelIdeal := hKernelIdeal) (hReferenceIdeal := hReferenceIdeal) (hPre_finite_gate := hPre_finite_gate)
-- ==== Pre_finite_gate.lean ====
abbrev S32x2048x1024 : Shape := ⟨3, ![32, 2048, 1024]⟩
abbrev S32x2048x256 : Shape := ⟨3, ![32, 2048, 256]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩
abbrev S1024x2816 : Shape := ⟨2, ![1024, 2816]⟩
abbrev S3x2816 : Shape := ⟨2, ![3, 2816]⟩
abbrev S2816 : Shape := ⟨1, ![2816]⟩

class Facts : Prop where
  bcast_S_S1024 : S_.BroadcastsInDim S1024 (![] : Fin 0 → Fin S1024.rank)
  slices_S1024x5632_S1024x2816_0_0 : S1024x5632.Slices ![0, 0] S1024x2816
  bcast_S_S1024x2816 : S_.BroadcastsInDim S1024x2816 (![] : Fin 0 → Fin S1024x2816.rank)
  slices_S3x5632_S3x2816_0_0 : S3x5632.Slices ![0, 0] S3x2816
  bcast_S_S3x2816 : S_.BroadcastsInDim S3x2816 (![] : Fin 0 → Fin S3x2816.rank)
  slices_S5632_S2816_0 : S5632.Slices ![0] S2816
  bcast_S_S2816 : S_.BroadcastsInDim S2816 (![] : Fin 0 → Fin S2816.rank)

variable [Facts]

def fn {F : FTy → Type} [FloatOps F] (main_arg0 : FVec F S32x2048x1024 .f32) (main_arg1 : FVec F S32x2048x256 .bf16) (main_arg2 : FVec F S32x2048x256 .bf16) (main_arg3 : FVec F S32x2048x256 .bf16) (main_arg4 : FVec F S32x2048x256 .bf16) (main_arg5 : FVec F S1024x1024 .f32) (main_arg6 : FVec F S1024 .f32) (main_arg7 : FVec F S1024x5632 .f32) (main_arg8 : FVec F S3x5632 .f32) (main_arg9 : FVec F S5632 .f32) (main_arg10 : FVec F S2816x1024 .f32) : IVec S1024 1 × IVec S1024x2816 1 × IVec S3x2816 1 × IVec S2816 1 :=
  let main_v0 : FVec F S1024 .f32 := Host.absf main_arg6
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : FVec F S1024x2816 .f32 := (extractStridedSlice S1024x2816 ![0, 0] · slices_S1024x5632_S1024x2816_0_0) main_arg7
  let main_v4 : FVec F S1024x2816 .f32 := Host.absf main_v3
  let main_cst_0 : FVec F S_ .f32 := constant S_ .f32 0x7F800000#32
  let main_v5 : FVec F S1024x2816 .f32 := broadcastInDim S1024x2816 ![] bcast_S_S1024x2816 main_cst_0
  let main_v6 : IVec S1024x2816 1 := cmpf .olt main_v4 main_v5
  let main_v7 : FVec F S3x2816 .f32 := (extractStridedSlice S3x2816 ![0, 0] · slices_S3x5632_S3x2816_0_0) main_arg8
  let main_v8 : FVec F S3x2816 .f32 := Host.absf main_v7
  let main_cst_1 : FVec F S_ .f32 := constant S_ .f32 0x7F800000#32
  let main_v9 : FVec F S3x2816 .f32 := broadcastInDim S3x2816 ![] bcast_S_S3x2816 main_cst_1
  let main_v10 : IVec S3x2816 1 := cmpf .olt main_v8 main_v9
  let main_v11 : FVec F S2816 .f32 := (extractStridedSlice S2816 ![0] · slices_S5632_S2816_0) main_arg9
  let main_v12 : FVec F S2816 .f32 := Host.absf main_v11
  let main_cst_2 : FVec F S_ .f32 := constant S_ .f32 0x7F800000#32
  let main_v13 : FVec F S2816 .f32 := broadcastInDim S2816 ![] bcast_S_S2816 main_cst_2
  let main_v14 : IVec S2816 1 := cmpf .olt main_v12 main_v13
  (main_v2, main_v6, main_v10, main_v14)
-- ==== Kernel.lean ====
abbrev S32x2048x1024 : Shape := ⟨3, ![32, 2048, 1024]⟩
abbrev S32x2048x256 : Shape := ⟨3, ![32, 2048, 256]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1x1024 : Shape := ⟨2, ![1, 1024]⟩
abbrev S1x5632 : Shape := ⟨2, ![1, 5632]⟩
abbrev S3x22x256 : Shape := ⟨3, ![3, 22, 256]⟩
abbrev S22x3x256 : Shape := ⟨3, ![22, 3, 256]⟩
abbrev S22x1x256 : Shape := ⟨3, ![22, 1, 256]⟩
abbrev S1x512x1024 : Shape := ⟨3, ![1, 512, 1024]⟩
abbrev S1x512x256 : Shape := ⟨3, ![1, 512, 256]⟩
abbrev S1024x2816 : Shape := ⟨2, ![1024, 2816]⟩
abbrev S11x3x256 : Shape := ⟨3, ![11, 3, 256]⟩
abbrev S11x1x256 : Shape := ⟨3, ![11, 1, 256]⟩
abbrev S512x1024 : Shape := ⟨2, ![512, 1024]⟩
abbrev S11x8x256 : Shape := ⟨3, ![11, 8, 256]⟩
abbrev S512x512 : Shape := ⟨2, ![512, 512]⟩
abbrev S520x256 : Shape := ⟨2, ![520, 256]⟩
abbrev S512x256 : Shape := ⟨2, ![512, 256]⟩
abbrev S256x1024 : Shape := ⟨2, ![256, 1024]⟩
abbrev S512 : Shape := ⟨1, ![512]⟩
abbrev S512x1 : Shape := ⟨2, ![512, 1]⟩
abbrev S1024x256 : Shape := ⟨2, ![1024, 256]⟩
abbrev S1x8x256 : Shape := ⟨3, ![1, 8, 256]⟩
abbrev S8x256 : Shape := ⟨2, ![8, 256]⟩
abbrev S1x3x256 : Shape := ⟨3, ![1, 3, 256]⟩
abbrev S3x256 : Shape := ⟨2, ![3, 256]⟩
abbrev S1x1x256 : Shape := ⟨3, ![1, 1, 256]⟩
abbrev S1x256 : Shape := ⟨2, ![1, 256]⟩

abbrev nBuf : Space → Nat
  | .hbm => 20
  | .vmem => 34
  | .smem => 0
  | _ => 0

abbrev bufTy : (tb : Table) → Fin (tcTables nBuf tb) → BufTy
  | .hbm, ⟨0, _⟩ => ⟨S32x2048x1024, .f32⟩
  | .hbm, ⟨1, _⟩ => ⟨S32x2048x256, .bf16⟩
  | .hbm, ⟨2, _⟩ => ⟨S32x2048x256, .bf16⟩
  | .hbm, ⟨3, _⟩ => ⟨S32x2048x256, .bf16⟩
  | .hbm, ⟨4, _⟩ => ⟨S32x2048x256, .bf16⟩
  | .hbm, ⟨5, _⟩ => ⟨S1024x1024, .f32⟩
  | .hbm, ⟨6, _⟩ => ⟨S1024, .f32⟩
  | .hbm, ⟨7, _⟩ => ⟨S1024x5632, .f32⟩
  | .hbm, ⟨8, _⟩ => ⟨S3x5632, .f32⟩
  | .hbm, ⟨9, _⟩ => ⟨S5632, .f32⟩
  | .hbm, ⟨10, _⟩ => ⟨S2816x1024, .f32⟩
  | .hbm, ⟨11, _⟩ => ⟨S1024x1024, .bf16⟩
  | .hbm, ⟨12, _⟩ => ⟨S1x1024, .f32⟩
  | .hbm, ⟨13, _⟩ => ⟨S1024x5632, .bf16⟩
  | .hbm, ⟨14, _⟩ => ⟨S1x5632, .f32⟩
  | .hbm, ⟨15, _⟩ => ⟨S2816x1024, .bf16⟩
  | .hbm, ⟨16, _⟩ => ⟨S3x22x256, .f32⟩
  | .hbm, ⟨17, _⟩ => ⟨S22x3x256, .f32⟩
  | .hbm, ⟨18, _⟩ => ⟨S22x1x256, .f32⟩
  | .hbm, ⟨19, _⟩ => ⟨S32x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x256, .bf16⟩
  | .local _ .vmem, ⟨3, _⟩ => ⟨S1x512x256, .bf16⟩
  | .local _ .vmem, ⟨4, _⟩ => ⟨S1x512x256, .bf16⟩
  | .local _ .vmem, ⟨5, _⟩ => ⟨S1x512x256, .bf16⟩
  | .local _ .vmem, ⟨6, _⟩ => ⟨S1x512x256, .bf16⟩
  | .local _ .vmem, ⟨7, _⟩ => ⟨S1x512x256, .bf16⟩
  | .local _ .vmem, ⟨8, _⟩ => ⟨S1x512x256, .bf16⟩
  | .local _ .vmem, ⟨9, _⟩ => ⟨S1x512x256, .bf16⟩
  | .local _ .vmem, ⟨10, _⟩ => ⟨S1024x1024, .bf16⟩
  | .local _ .vmem, ⟨11, _⟩ => ⟨S1x1024, .f32⟩
  | .local _ .vmem, ⟨12, _⟩ => ⟨S1024x2816, .bf16⟩
  | .local _ .vmem, ⟨13, _⟩ => ⟨S1024x2816, .bf16⟩
  | .local _ .vmem, ⟨14, _⟩ => ⟨S11x3x256, .f32⟩
  | .local _ .vmem, ⟨15, _⟩ => ⟨S11x3x256, .f32⟩
  | .local _ .vmem, ⟨16, _⟩ => ⟨S11x1x256, .f32⟩
  | .local _ .vmem, ⟨17, _⟩ => ⟨S11x1x256, .f32⟩
  | .local _ .vmem, ⟨18, _⟩ => ⟨S2816x1024, .bf16⟩
  | .local _ .vmem, ⟨19, _⟩ => ⟨S1x512x1024, .f32⟩
  | .local _ .vmem, ⟨20, _⟩ => ⟨S1x512x1024, .f32⟩
  | .local _ .vmem, ⟨21, _⟩ => ⟨S512x1024, .bf16⟩
  | .local _ .vmem, ⟨22, _⟩ => ⟨S11x8x256, .f32⟩
  | .local _ .vmem, ⟨23, _⟩ => ⟨S11x8x256, .f32⟩
  | .local _ .vmem, ⟨24, _⟩ => ⟨S512x512, .bf16⟩
  | .local _ .vmem, ⟨25, _⟩ => ⟨S512x512, .bf16⟩
  | .local _ .vmem, ⟨26, _⟩ => ⟨S520x256, .f32⟩
  | .local _ .vmem, ⟨27, _⟩ => ⟨S520x256, .f32⟩
  | .local _ .vmem, ⟨28, _⟩ => ⟨S520x256, .f32⟩
  | .local _ .vmem, ⟨29, _⟩ => ⟨S520x256, .f32⟩
  | .local _ .vmem, ⟨30, _⟩ => ⟨S520x256, .f32⟩
  | .local _ .vmem, ⟨31, _⟩ => ⟨S520x256, .f32⟩
  | .local _ .vmem, ⟨32, _⟩ => ⟨S520x256, .f32⟩
  | .local _ .vmem, ⟨33, _⟩ => ⟨S520x256, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg14_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_scratch4 : Ref sig .tc := ⟨.vmem, 25, rfl⟩
abbrev cc0_scratch5 : Ref sig .tc := ⟨.vmem, 26, rfl⟩
abbrev cc0_scratch6 : Ref sig .tc := ⟨.vmem, 27, rfl⟩
abbrev cc0_scratch7 : Ref sig .tc := ⟨.vmem, 28, rfl⟩
abbrev cc0_scratch8 : Ref sig .tc := ⟨.vmem, 29, rfl⟩
abbrev cc0_scratch9 : Ref sig .tc := ⟨.vmem, 30, rfl⟩
abbrev cc0_scratch10 : Ref sig .tc := ⟨.vmem, 31, rfl⟩
abbrev cc0_scratch11 : Ref sig .tc := ⟨.vmem, 32, rfl⟩
abbrev cc0_scratch12 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem14_1 : DmaSem sig := 20

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![c0_i32.toNat, c1_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x2816 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S11x3x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S11x3x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S11x1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S11x1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S2816x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== ReferenceIdeal.lean ====
abbrev S32x2048x1024 : Shape := ⟨3, ![32, 2048, 1024]⟩
abbrev S32x2048x256 : Shape := ⟨3, ![32, 2048, 256]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x5632 : Shape := ⟨3, ![32, 2048, 5632]⟩
abbrev S32x2050x5632 : Shape := ⟨3, ![32, 2050, 5632]⟩
abbrev S1x5632 : Shape := ⟨2, ![1, 5632]⟩
abbrev S1x1x5632 : Shape := ⟨3, ![1, 1, 5632]⟩
abbrev S32x2048x2816 : Shape := ⟨3, ![32, 2048, 2816]⟩

abbrev nBuf : Space → Nat
  | .hbm => 78
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x2048x256, .bf16⟩
  | .hbm, ⟨2, _⟩ => ⟨S32x2048x256, .bf16⟩
  | .hbm, ⟨3, _⟩ => ⟨S32x2048x256, .bf16⟩
  | .hbm, ⟨4, _⟩ => ⟨S32x2048x256, .bf16⟩
  | .hbm, ⟨5, _⟩ => ⟨S1024x1024, .f32⟩
  | .hbm, ⟨6, _⟩ => ⟨S1024, .f32⟩
  | .hbm, ⟨7, _⟩ => ⟨S1024x5632, .f32⟩
  | .hbm, ⟨8, _⟩ => ⟨S3x5632, .f32⟩
  | .hbm, ⟨9, _⟩ => ⟨S5632, .f32⟩
  | .hbm, ⟨10, _⟩ => ⟨S2816x1024, .f32⟩
  | .hbm, ⟨11, _⟩ => ⟨S32x2048x256, .f32⟩
  | .hbm, ⟨12, _⟩ => ⟨S32x2048x256, .f32⟩
  | .hbm, ⟨13, _⟩ => ⟨S32x2048x256, .f32⟩
  | .hbm, ⟨14, _⟩ => ⟨S32x2048x256, .f32⟩
  | .hbm, ⟨15, _⟩ => ⟨S32x2048x1024, .f32⟩
  | .hbm, ⟨16, _⟩ => ⟨S32x2048x1024, .f32⟩
  | .hbm, ⟨17, _⟩ => ⟨S32x2048x1024, .f32⟩
  | .hbm, ⟨18, _⟩ => ⟨S32x2048x1024, .f32⟩
  | .hbm, ⟨19, _⟩ => ⟨S_, .f32⟩
  | .hbm, ⟨20, _⟩ => ⟨S32x2048, .f32⟩
  | .hbm, ⟨21, _⟩ => ⟨S32x2048x1, .f32⟩
  | .hbm, ⟨22, _⟩ => ⟨S_, .f32⟩
  | .hbm, ⟨23, _⟩ => ⟨S32x2048x1, .f32⟩
  | .hbm, ⟨24, _⟩ => ⟨S32x2048x1, .f32⟩
  | .hbm, ⟨25, _⟩ => ⟨S_, .f32⟩
  | .hbm, ⟨26, _⟩ => ⟨S32x2048x1, .f32⟩
  | .hbm, ⟨27, _⟩ => ⟨S32x2048x1, .f32⟩
  | .hbm, ⟨28, _⟩ => ⟨S32x2048x1, .f32⟩
  | .hbm, ⟨29, _⟩ => ⟨S32x2048x1024, .f32⟩
  | .hbm, ⟨30, _⟩ => ⟨S32x2048x1024, .f32⟩
  | .hbm, ⟨31, _⟩ => ⟨S1x1x1024, .f32⟩
  | .hbm, ⟨32, _⟩ => ⟨S32x2048x1024, .f32⟩
  | .hbm, ⟨33, _⟩ => ⟨S32x2048x1024, .f32⟩
  | .hbm, ⟨34, _⟩ => ⟨S32x2048x5632, .f32⟩
  | .hbm, ⟨35, _⟩ => ⟨S_, .i32⟩
  | .hbm, ⟨36, _⟩ => ⟨S_, .f32⟩
  | .hbm, ⟨37, _⟩ => ⟨S32x2050x5632, .f32⟩
  | .hbm, ⟨38, _⟩ => ⟨S1x5632, .f32⟩
  | .hbm, ⟨39, _⟩ => ⟨S5632, .f32⟩
  | .hbm, ⟨40, _⟩ => ⟨S32x2048x5632, .f32⟩
  | .hbm, ⟨41, _⟩ => ⟨S1x1x5632, .f32⟩
  | .hbm, ⟨42, _⟩ => ⟨S32x2048x5632, .f32⟩
  | .hbm, ⟨43, _⟩ => ⟨S32x2048x5632, .f32⟩
  | .hbm, ⟨44, _⟩ => ⟨S_, .f32⟩
  | .hbm, ⟨45, _⟩ => ⟨S32x2048x5632, .f32⟩
  | .hbm, ⟨46, _⟩ => ⟨S32x2048x5632, .f32⟩
  | .hbm, ⟨47, _⟩ => ⟨S1x5632, .f32⟩
  | .hbm, ⟨48, _⟩ => ⟨S5632, .f32⟩
  | .hbm, ⟨49, _⟩ => ⟨S32x2048x5632, .f32⟩
  | .hbm, ⟨50, _⟩ => ⟨S1x1x5632, .f32⟩
  | .hbm, ⟨51, _⟩ => ⟨S32x2048x5632, .f32⟩
  | .hbm, ⟨52, _⟩ => ⟨S32x2048x5632, .f32⟩
  | .hbm, ⟨53, _⟩ => ⟨S32x2048x5632, .f32⟩
  | .hbm, ⟨54, _⟩ => ⟨S1x5632, .f32⟩
  | .hbm, ⟨55, _⟩ => ⟨S5632, .f32⟩
  | .hbm, ⟨56, _⟩ => ⟨S32x2048x5632, .f32⟩
  | .hbm, ⟨57, _⟩ => ⟨S1x1x5632, .f32⟩
  | .hbm, ⟨58, _⟩ => ⟨S32x2048x5632, .f32⟩
  | .hbm, ⟨59, _⟩ => ⟨S32x2048x5632, .f32⟩
  | .hbm, ⟨60, _⟩ => ⟨S32x2048x5632, .f32⟩
  | .hbm, ⟨61, _⟩ => ⟨S1x1x5632, .f32⟩
  | .hbm, ⟨62, _⟩ => ⟨S32x2048x5632, .f32⟩
  | .hbm, ⟨63, _⟩ => ⟨S32x2048x5632, .f32⟩
  | .hbm, ⟨64, _⟩ => ⟨S32x2048x2816, .f32⟩
  | .hbm, ⟨65, _⟩ => ⟨S32x2048x2816, .f32⟩
  | .hbm, ⟨66, _⟩ => ⟨S32x2048x2816, .f32⟩
  | .hbm, ⟨67, _⟩ => ⟨S32x2048x2816, .f32⟩
  | .hbm, ⟨68, _⟩ => ⟨S_, .f32⟩
  | .hbm, ⟨69, _⟩ => ⟨S32x2048x2816, .f32⟩
  | .hbm, ⟨70, _⟩ => ⟨S32x2048x2816, .f32⟩
  | .hbm, ⟨71, _⟩ => ⟨S_, .f32⟩
  | .hbm, ⟨72, _⟩ => ⟨S32x2048x2816, .f32⟩
  | .hbm, ⟨73, _⟩ => ⟨S32x2048x2816, .f32⟩
  | .hbm, ⟨74, _⟩ => ⟨S32x2048x2816, .f32⟩
  | .hbm, ⟨75, _⟩ => ⟨S32x2048x2816, .f32⟩
  | .hbm, ⟨76, _⟩ => ⟨S32x2048x1024, .f32⟩
  | .hbm, ⟨77, _⟩ => ⟨S32x2048x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c : Ref sig .tc := ⟨.hbm, 35, rfl⟩
abbrev main_call0_v0 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_2 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_call1_v0 : Ref sig .tc := ⟨.hbm, 66, rfl⟩
abbrev main_call1_v1 : Ref sig .tc := ⟨.hbm, 67, rfl⟩
abbrev main_call1_cst : Ref sig .tc := ⟨.hbm, 68, rfl⟩
abbrev main_call1_v2 : Ref sig .tc := ⟨.hbm, 69, rfl⟩
abbrev main_call1_v3 : Ref sig .tc := ⟨.hbm, 70, rfl⟩
abbrev main_call1_cst_0 : Ref sig .tc := ⟨.hbm, 71, rfl⟩
abbrev main_call1_v4 : Ref sig .tc := ⟨.hbm, 72, rfl⟩
abbrev main_call1_v5 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩

abbrev nD : Nat := 1
abbrev τ : Topo := Topo.v7x

variable {F : FTy → Type} [FloatOps F]
-- ==== Proof.Ffn.Entry.lean ====
module

public import proofs.«01_k».proof.Proof.Gen.KernelIdeal.Frame
public import Idealize.ShloMosaic.Lib.Pipeline.ValueKit
public import Idealize.ShloMosaic.Lib.Pointwise
public import Idealize.ShloMosaic.Lib.Claim

/-!
What each input block of the feed-forward kernel holds at a grid point, in terms of the arguments.
Grid point `t` is tile `t % 4` of batch row `t / 4`.
-/

@[expose] public section

set_option maxRecDepth 16384

noncomputable section

namespace Cert.KernelIdeal.Ffn

open Idealize Idealize.ShloMosaic Cert.KernelIdeal Cert.KernelIdeal.Gen

variable (m : (ℓ : Loc nD τ sig) → Buf (Elt Ideal) ℓ) (c : Dev nD)

/-- Argument 0: the residual stream. -/
abbrev aX : FVec Ideal S32x2048x1024 .f32 := m (c.tc.loc main_arg0)

/-- Argument 1: the first mixed stream. -/
abbrev aYa : FVec Ideal S32x2048x256 .bf16 := m (c.tc.loc main_arg1)

/-- Argument 2: the second mixed stream. -/
abbrev aYb : FVec Ideal S32x2048x256 .bf16 := m (c.tc.loc main_arg2)

/-- Argument 3: the third mixed stream. -/
abbrev aYc : FVec Ideal S32x2048x256 .bf16 := m (c.tc.loc main_arg3)

/-- Argument 4: the fourth mixed stream. -/
abbrev aYd : FVec Ideal S32x2048x256 .bf16 := m (c.tc.loc main_arg4)

/-- Argument 5: the out-projection's weight. -/
abbrev aWo : FVec Ideal S1024x1024 .f32 := m (c.tc.loc main_arg5)

/-- Argument 6: the norm's gain. -/
abbrev aG : FVec Ideal S1024 .f32 := m (c.tc.loc main_arg6)

/-- Argument 7: the up-projection's weight. -/
abbrev aWu : FVec Ideal S1024x5632 .f32 := m (c.tc.loc main_arg7)

/-- Argument 8: the convolution's weight. -/
abbrev aCw : FVec Ideal S3x5632 .f32 := m (c.tc.loc main_arg8)

/-- Argument 9: the convolution's bias. -/
abbrev aCb : FVec Ideal S5632 .f32 := m (c.tc.loc main_arg9)

/-- Argument 10: the down-projection's weight. -/
abbrev aWd : FVec Ideal S2816x1024 .f32 := m (c.tc.loc main_arg10)

/-- The block index of every row window at every grid point. -/
theorem idx_rows : ∀ t : Fin cfg0.N, win0_0.index t = ![t.val / 4, t.val % 4, 0] ∧ win0_1.index t = ![t.val / 4, t.val % 4, 0]
    ∧ win0_2.index t = ![t.val / 4, t.val % 4, 0] ∧ win0_3.index t = ![t.val / 4, t.val % 4, 0]
    ∧ win0_4.index t = ![t.val / 4, t.val % 4, 0] ∧ win0_14.index t = ![t.val / 4, t.val % 4, 0] :=
  (by decide +kernel : ∀ t : Fin grid0.N, _)

/-- The block index of every weight window at every grid point. -/
theorem idx_weights : ∀ t : Fin cfg0.N, win0_5.index t = ![0, 0] ∧ win0_6.index t = ![0, 0] ∧ win0_7.index t = ![0, 0]
    ∧ win0_8.index t = ![0, 1] ∧ win0_9.index t = ![0, 0, 0] ∧ win0_10.index t = ![1, 0, 0] ∧ win0_11.index t = ![0, 0, 0]
    ∧ win0_12.index t = ![1, 0, 0] ∧ win0_13.index t = ![0, 0] :=
  (by decide +kernel : ∀ t : Fin grid0.N, _)

/-- The input rows of a tile. -/
theorem blk_x (t : Fin cfg0.N) (r : Fin 512) (d : Fin 1024) (b : Fin 32) (s : Fin 2048) (hb : b.val = t.val / 4)
    (hs : s.val = 512 * (t.val % 4) + r.val) :
    (iblk m c 0 t : FVec Ideal S1x512x1024 .f32) (ix3 (0 : Fin 1) r d) = aX m c (ix3 b s d) := by
  blk_ext [iblk, V, idx_rows t]

/-- The first stream's rows of a tile. -/
theorem blk_ya (t : Fin cfg0.N) (r : Fin 512) (d : Fin 256) (b : Fin 32) (s : Fin 2048) (hb : b.val = t.val / 4)
    (hs : s.val = 512 * (t.val % 4) + r.val) :
    (iblk m c 1 t : FVec Ideal S1x512x256 .bf16) (ix3 (0 : Fin 1) r d) = aYa m c (ix3 b s d) := by
  blk_ext [iblk, V, idx_rows t]

/-- The second stream's rows of a tile. -/
theorem blk_yb (t : Fin cfg0.N) (r : Fin 512) (d : Fin 256) (b : Fin 32) (s : Fin 2048) (hb : b.val = t.val / 4)
    (hs : s.val = 512 * (t.val % 4) + r.val) :
    (iblk m c 2 t : FVec Ideal S1x512x256 .bf16) (ix3 (0 : Fin 1) r d) = aYb m c (ix3 b s d) := by
  blk_ext [iblk, V, idx_rows t]

/-- The third stream's rows of a tile. -/
theorem blk_yc (t : Fin cfg0.N) (r : Fin 512) (d : Fin 256) (b : Fin 32) (s : Fin 2048) (hb : b.val = t.val / 4)
    (hs : s.val = 512 * (t.val % 4) + r.val) :
    (iblk m c 3 t : FVec Ideal S1x512x256 .bf16) (ix3 (0 : Fin 1) r d) = aYc m c (ix3 b s d) := by
  blk_ext [iblk, V, idx_rows t]

/-- The fourth stream's rows of a tile. -/
theorem blk_yd (t : Fin cfg0.N) (r : Fin 512) (d : Fin 256) (b : Fin 32) (s : Fin 2048) (hb : b.val = t.val / 4)
    (hs : s.val = 512 * (t.val % 4) + r.val) :
    (iblk m c 4 t : FVec Ideal S1x512x256 .bf16) (ix3 (0 : Fin 1) r d) = aYd m c (ix3 b s d) := by
  blk_ext [iblk, V, idx_rows t]

/-- The out-projection's weight. -/
theorem blk_wo (t : Fin cfg0.N) (e d : Fin 1024) :
    (iblk m c 5 t : FVec Ideal S1024x1024 .bf16) (ix2 e d) = aWo m c (ix2 e d) := by
  have h2 : (iblk m c 5 t : FVec Ideal S1024x1024 .bf16) (ix2 e d) = (V m c main_v0 : FVec Ideal S1024x1024 .bf16) (ix2 e d) := by
    blk_ext [iblk, idx_weights t]
  have h : (V m c main_v0 : FVec Ideal S1024x1024 .bf16) = truncf (F := Ideal) .bf16 (aWo m c) bitsLt_bf16_f32 := by
    entry_read
    rfl
  rw [h2, h]
  rfl

/-- The norm's gain. -/
theorem blk_g (t : Fin cfg0.N) (d : Fin 1024) :
    (iblk m c 6 t : FVec Ideal S1x1024 .f32) (ix2 (0 : Fin 1) d) = aG m c (ix1 d) := by
  have h2 : (iblk m c 6 t : FVec Ideal S1x1024 .f32) (ix2 (0 : Fin 1) d) = (V m c main_v1 : FVec Ideal S1x1024 .f32) (ix2 (0 : Fin 1) d) := by
    blk_ext [iblk, idx_weights t]
  have h : (V m c main_v1 : FVec Ideal S1x1024 .f32) = broadcastInDim S1x1024 ![1] bcast_S1024_S1x1024_1 (aG m c) := by
    entry_read
    rfl
  rw [h2, h]
  pointwise

/-- The gate half of the up-projection's weight. -/
theorem blk_wg (t : Fin cfg0.N) (d : Fin 1024) (f : Fin 2816) (k : Fin 5632) (hk : k.val = f.val) :
    (iblk m c 7 t : FVec Ideal S1024x2816 .bf16) (ix2 d f) = aWu m c (ix2 d k) := by
  have h2 : (iblk m c 7 t : FVec Ideal S1024x2816 .bf16) (ix2 d f) = (V m c main_v2 : FVec Ideal S1024x5632 .bf16) (ix2 d k) := by
    blk_ext [iblk, idx_weights t]
  have h : (V m c main_v2 : FVec Ideal S1024x5632 .bf16) = truncf (F := Ideal) .bf16 (aWu m c) bitsLt_bf16_f32 := by
    entry_read
    rfl
  rw [h2, h]
  rfl

/-- The value half of the up-projection's weight. -/
theorem blk_wv (t : Fin cfg0.N) (d : Fin 1024) (f : Fin 2816) (k : Fin 5632) (hk : k.val = 2816 + f.val) :
    (iblk m c 8 t : FVec Ideal S1024x2816 .bf16) (ix2 d f) = aWu m c (ix2 d k) := by
  have h2 : (iblk m c 8 t : FVec Ideal S1024x2816 .bf16) (ix2 d f) = (V m c main_v2 : FVec Ideal S1024x5632 .bf16) (ix2 d k) := by
    blk_ext [iblk, idx_weights t]
  have h : (V m c main_v2 : FVec Ideal S1024x5632 .bf16) = truncf (F := Ideal) .bf16 (aWu m c) bitsLt_bf16_f32 := by
    entry_read
    rfl
  rw [h2, h]
  rfl

/-- The gate half of the convolution's weight. -/
theorem blk_cwg (t : Fin cfg0.N) (f : Fin 11) (i : Fin 3) (j : Fin 256) (k : Fin 5632) (hk : k.val = 0 + 256 * f.val + j.val) :
    (iblk m c 9 t : FVec Ideal S11x3x256 .f32) (ix3 f i j) = aCw m c (ix2 i k) := by
  have h2 : (iblk m c 9 t : FVec Ideal S11x3x256 .f32) (ix3 f i j) = (V m c main_v6 : FVec Ideal S22x3x256 .f32) (ix3 (⟨0 + f.val, by omega⟩ : Fin 22) i j) := by
    blk_ext [iblk, idx_weights t]
  have h : (V m c main_v6 : FVec Ideal S22x3x256 .f32) = transpose S22x3x256 [1, 0, 2] (shapeCast S3x22x256 (aCw m c) shapeCasts_S3x5632_S3x22x256) transposes_S3x22x256_S22x3x256_1_0_2 := by
    entry_read
    rfl
  rw [h2, h]
  pointwise
  blk_ext []

/-- The value half of the convolution's weight. -/
theorem blk_cwv (t : Fin cfg0.N) (f : Fin 11) (i : Fin 3) (j : Fin 256) (k : Fin 5632) (hk : k.val = 2816 + 256 * f.val + j.val) :
    (iblk m c 10 t : FVec Ideal S11x3x256 .f32) (ix3 f i j) = aCw m c (ix2 i k) := by
  have h2 : (iblk m c 10 t : FVec Ideal S11x3x256 .f32) (ix3 f i j) = (V m c main_v6 : FVec Ideal S22x3x256 .f32) (ix3 (⟨11 + f.val, by omega⟩ : Fin 22) i j) := by
    blk_ext [iblk, idx_weights t]
  have h : (V m c main_v6 : FVec Ideal S22x3x256 .f32) = transpose S22x3x256 [1, 0, 2] (shapeCast S3x22x256 (aCw m c) shapeCasts_S3x5632_S3x22x256) transposes_S3x22x256_S22x3x256_1_0_2 := by
    entry_read
    rfl
  rw [h2, h]
  pointwise
  blk_ext []

/-- The gate half of the convolution's bias. -/
theorem blk_cbg (t : Fin cfg0.N) (f : Fin 11) (j : Fin 256) (k : Fin 5632) (hk : k.val = 0 + 256 * f.val + j.val) :
    (iblk m c 11 t : FVec Ideal S11x1x256 .f32) (ix3 f (0 : Fin 1) j) = aCb m c (ix1 k) := by
  have h2 : (iblk m c 11 t : FVec Ideal S11x1x256 .f32) (ix3 f (0 : Fin 1) j) = (V m c main_v7 : FVec Ideal S22x1x256 .f32) (ix3 (⟨0 + f.val, by omega⟩ : Fin 22) (0 : Fin 1) j) := by
    blk_ext [iblk, idx_weights t]
  have h : (V m c main_v7 : FVec Ideal S22x1x256 .f32) = shapeCast S22x1x256 (broadcastInDim S1x5632 ![1] bcast_S5632_S1x5632_1 (aCb m c)) shapeCasts_S1x5632_S22x1x256 := by
    entry_read
    rfl
  rw [h2, h]
  pointwise
  blk_ext []

/-- The value half of the convolution's bias. -/
theorem blk_cbv (t : Fin cfg0.N) (f : Fin 11) (j : Fin 256) (k : Fin 5632) (hk : k.val = 2816 + 256 * f.val + j.val) :
    (iblk m c 12 t : FVec Ideal S11x1x256 .f32) (ix3 f (0 : Fin 1) j) = aCb m c (ix1 k) := by
  have h2 : (iblk m c 12 t : FVec Ideal S11x1x256 .f32) (ix3 f (0 : Fin 1) j) = (V m c main_v7 : FVec Ideal S22x1x256 .f32) (ix3 (⟨11 + f.val, by omega⟩ : Fin 22) (0 : Fin 1) j) := by
    blk_ext [iblk, idx_weights t]
  have h : (V m c main_v7 : FVec Ideal S22x1x256 .f32) = shapeCast S22x1x256 (broadcastInDim S1x5632 ![1] bcast_S5632_S1x5632_1 (aCb m c)) shapeCasts_S1x5632_S22x1x256 := by
    entry_read
    rfl
  rw [h2, h]
  pointwise
  blk_ext []

/-- The down-projection's weight. -/
theorem blk_wd (t : Fin cfg0.N) (k : Fin 2816) (d : Fin 1024) :
    (iblk m c 13 t : FVec Ideal S2816x1024 .bf16) (ix2 k d) = aWd m c (ix2 k d) := by
  have h2 : (iblk m c 13 t : FVec Ideal S2816x1024 .bf16) (ix2 k d) = (V m c main_v4 : FVec Ideal S2816x1024 .bf16) (ix2 k d) := by
    blk_ext [iblk, idx_weights t]
  have h : (V m c main_v4 : FVec Ideal S2816x1024 .bf16) = truncf (F := Ideal) .bf16 (aWd m c) bitsLt_bf16_f32 := by
    entry_read
    rfl
  rw [h2, h]
  rfl

end Cert.KernelIdeal.Ffn
-- ==== Proof.Ffn.Buffers.lean ====
module

public import Idealize.ShloMosaic.Lib.Pipeline.ReadBack
public import Idealize.ShloMosaic.Lib.Pointwise
public import proofs.«01_k».proof.Proof.Gen.KernelIdeal.Skeleton

/-!
Two scratch buffers of the feed-forward kernel are filled by two stores each: the buffer of one column group
(8 halo rows, then the 512 rows of the tile) and the buffer of activations (two column groups side by side).
Here is what such a buffer holds after the two stores, whatever was stored before.
-/

@[expose] public section

set_option maxRecDepth 16384

noncomputable section

namespace Cert.KernelIdeal.Ffn

open Idealize Idealize.ShloMosaic Cert.KernelIdeal Cert.KernelIdeal.Gen

/-- 8 halo rows above the 512 rows of a tile. -/
def stackU (a : FVec Ideal S8x256 .f32) (b : FVec Ideal S512x256 .f32) : FVec Ideal S520x256 .f32 := fun y =>
  if h : (y 0).val < 8 then a (ix2 (⟨(y 0).val, h⟩ : Fin 8) (⟨(y 1).val, (y 1).isLt⟩ : Fin 256))
  else b (ix2 (⟨(y 0).val - 8, by have := (y 0).isLt; change (y 0).val < 520 at this; omega⟩ : Fin 512) (⟨(y 1).val, (y 1).isLt⟩ : Fin 256))

/-- Two blocks of 256 columns side by side. -/
def pairA (a b : FVec Ideal S512x256 .bf16) : FVec Ideal S512x512 .bf16 := fun y =>
  if h : (y 1).val < 256 then a (ix2 (⟨(y 0).val, (y 0).isLt⟩ : Fin 512) (⟨(y 1).val, h⟩ : Fin 256))
  else b (ix2 (⟨(y 0).val, (y 0).isLt⟩ : Fin 512) (⟨(y 1).val - 256, by have := (y 1).isLt; change (y 1).val < 512 at this; omega⟩ : Fin 256))

/-- The group's buffer after the halo and the tile have been stored. -/
theorem canon_stackU (h0 : ∀ a, (![0, 0] : Fin 2 → ℕ) a + S8x256.size a ≤ S520x256.size a)
    (h8 : ∀ a, (![8, 0] : Fin 2 → ℕ) a + S512x256.size a ≤ S520x256.size a)
    (a : FVec Ideal S8x256 .f32) (b : FVec Ideal S512x256 .f32) (L : List (View.Piece (Elt Ideal) S520x256 .f32)) :
    View.canon ((⟨Rect.unit (s := S520x256) ![0, 0] S8x256.size h0, a⟩ : View.Piece (Elt Ideal) S520x256 .f32) ::
      ⟨Rect.unit (s := S520x256) ![8, 0] S512x256.size h8, b⟩ :: L) = stackU a b := by
  funext y
  by_cases h : (y 0).val < 8
  · have e : y = (Rect.unit (s := S520x256) ![0, 0] S8x256.size h0).emb
        (ix2 (⟨(y 0).val, h⟩ : Fin 8) (⟨(y 1).val, (y 1).isLt⟩ : Fin 256)) := by
      funext k; apply Fin.ext; fin_cases k
      · show (y 0).val = 0 + 1 * (y 0).val; omega
      · show (y 1).val = 0 + 1 * (y 1).val; omega
    rw [stackU, dif_pos h]
    conv_lhs => rw [e]
    exact View.canon_cons_emb (Val := Elt Ideal) (e := .f32) (Rect.unit (s := S520x256) ![0, 0] S8x256.size h0) a _ _
  · have hlt : (y 0).val < 520 := (y 0).isLt
    have e : y = (Rect.unit (s := S520x256) ![8, 0] S512x256.size h8).emb
        (ix2 (⟨(y 0).val - 8, by omega⟩ : Fin 512) (⟨(y 1).val, (y 1).isLt⟩ : Fin 256)) := by
      funext k; apply Fin.ext; fin_cases k
      · show (y 0).val = 8 + 1 * ((y 0).val - 8); omega
      · show (y 1).val = 0 + 1 * (y 1).val; omega
    rw [View.canon_cons_of_not_mem, stackU, dif_neg h]
    · conv_lhs => rw [e]
      exact View.canon_cons_emb (Val := Elt Ideal) (e := .f32) (Rect.unit (s := S520x256) ![8, 0] S512x256.size h8) b _ _
    · intro hm
      have := ((Rect.mem_set_unit (s := S520x256) (off := ![0, 0]) (size := S8x256.size) (inb := h0) (i := y)).mp hm 0).2
      change (y 0).val < 0 + 8 at this
      omega

/-- The activation buffer after its two column groups have been stored. -/
theorem canon_pairA (h0 : ∀ a, (![0, 0] : Fin 2 → ℕ) a + S512x256.size a ≤ S512x512.size a)
    (h8 : ∀ a, (![0, 256] : Fin 2 → ℕ) a + S512x256.size a ≤ S512x512.size a)
    (a b : FVec Ideal S512x256 .bf16) (L : List (View.Piece (Elt Ideal) S512x512 .bf16)) :
    View.canon ((⟨Rect.unit (s := S512x512) ![0, 256] S512x256.size h8, b⟩ : View.Piece (Elt Ideal) S512x512 .bf16) ::
      ⟨Rect.unit (s := S512x512) ![0, 0] S512x256.size h0, a⟩ :: L) = pairA a b := by
  funext y
  have hlt : (y 1).val < 512 := (y 1).isLt
  by_cases h : (y 1).val < 256
  · have e : y = (Rect.unit (s := S512x512) ![0, 0] S512x256.size h0).emb
        (ix2 (⟨(y 0).val, (y 0).isLt⟩ : Fin 512) (⟨(y 1).val, h⟩ : Fin 256)) := by
      funext k; apply Fin.ext; fin_cases k
      · show (y 0).val = 0 + 1 * (y 0).val; omega
      · show (y 1).val = 0 + 1 * (y 1).val; omega
    rw [View.canon_cons_of_not_mem, pairA, dif_pos h]
    · conv_lhs => rw [e]
      exact View.canon_cons_emb (Val := Elt Ideal) (e := .bf16) (Rect.unit (s := S512x512) ![0, 0] S512x256.size h0) a _ _
    · intro hm
      have := ((Rect.mem_set_unit (s := S512x512) (off := ![0, 256]) (size := S512x256.size) (inb := h8) (i := y)).mp hm 1).1
      change 256 ≤ (y 1).val at this
      omega
  · have e : y = (Rect.unit (s := S512x512) ![0, 256] S512x256.size h8).emb
        (ix2 (⟨(y 0).val, (y 0).isLt⟩ : Fin 512) (⟨(y 1).val - 256, by omega⟩ : Fin 256)) := by
      funext k; apply Fin.ext; fin_cases k
      · show (y 0).val = 0 + 1 * (y 0).val; omega
      · show (y 1).val = 256 + 1 * ((y 1).val - 256); omega
    rw [pairA, dif_neg h]
    conv_lhs => rw [e]
    exact View.canon_cons_emb (Val := Elt Ideal) (e := .bf16) (Rect.unit (s := S512x512) ![0, 256] S512x256.size h8) b _ _

variable {sig : RefSig} {κ : Kind} {sp : Space}

/-- A load from the group's buffer reads the stack. -/
theorem readCov_stackU (v : View sig κ sp S520x256 .f32)
    (h0 : ∀ a, (![0, 0] : Fin 2 → ℕ) a + S8x256.size a ≤ S520x256.size a)
    (h8 : ∀ a, (![8, 0] : Fin 2 → ℕ) a + S512x256.size a ≤ S520x256.size a)
    (a : FVec Ideal S8x256 .f32) (b : FVec Ideal S512x256 .f32) (L : List (View.Piece (Elt Ideal) S520x256 .f32))
    (r : Rect S520x256) :
    v.readCov ((⟨Rect.unit (s := S520x256) ![0, 0] S8x256.size h0, a⟩ : View.Piece (Elt Ideal) S520x256 .f32) ::
      ⟨Rect.unit (s := S520x256) ![8, 0] S512x256.size h8, b⟩ :: L) r.toLoadRect = View.ld (stackU a b) r := by
  rw [View.readCov_eq_canon', canon_stackU]

/-- The last 8 rows of the group's buffer, read after the tile's store: the last 8 rows of the tile. -/
theorem readCov_tail (v : View sig κ sp S520x256 .f32)
    (h8 : ∀ a, (![8, 0] : Fin 2 → ℕ) a + S512x256.size a ≤ S520x256.size a)
    (ht : ∀ a, (![512, 0] : Fin 2 → ℕ) a + S8x256.size a ≤ S520x256.size a)
    (b : FVec Ideal S512x256 .f32) (L : List (View.Piece (Elt Ideal) S520x256 .f32)) :
    v.readCov ((⟨Rect.unit (s := S520x256) ![8, 0] S512x256.size h8, b⟩ : View.Piece (Elt Ideal) S520x256 .f32) :: L)
      (Rect.unit (s := S520x256) ![512, 0] S8x256.size ht).toLoadRect
      = View.ld b (Rect.unit (s := S512x256) ![504, 0] S8x256.size (by decide)) := by
  rw [View.readCov_eq_canon']
  funext j
  have e : (Rect.unit (s := S520x256) ![512, 0] S8x256.size ht).toLoadRect.idx j
      = (Rect.unit (s := S520x256) ![8, 0] S512x256.size h8).emb
        ((Rect.unit (s := S512x256) ![504, 0] S8x256.size (by decide)).toLoadRect.idx j) := by
    funext k; apply Fin.ext; fin_cases k
    · show 512 + 1 * (j 0).val = 8 + 1 * (504 + 1 * (j 0).val); omega
    · show 0 + 1 * (j 1).val = 0 + 1 * (0 + 1 * (j 1).val); omega
  show View.canon _ _ = _
  rw [e]
  exact View.canon_cons_emb (Val := Elt Ideal) (e := .f32) (Rect.unit (s := S520x256) ![8, 0] S512x256.size h8) b _ _

/-- A load from the activation buffer reads the pair. -/
theorem readCov_pairA (v : View sig κ sp S512x512 .bf16)
    (h0 : ∀ a, (![0, 0] : Fin 2 → ℕ) a + S512x256.size a ≤ S512x512.size a)
    (h8 : ∀ a, (![0, 256] : Fin 2 → ℕ) a + S512x256.size a ≤ S512x512.size a)
    (a b : FVec Ideal S512x256 .bf16) (L : List (View.Piece (Elt Ideal) S512x512 .bf16)) (r : Rect S512x512) :
    v.readCov ((⟨Rect.unit (s := S512x512) ![0, 256] S512x256.size h8, b⟩ : View.Piece (Elt Ideal) S512x512 .bf16) ::
      ⟨Rect.unit (s := S512x512) ![0, 0] S512x256.size h0, a⟩ :: L) r.toLoadRect = View.ld (pairA a b) r := by
  rw [View.readCov_eq_canon', canon_pairA]

end Cert.KernelIdeal.Ffn
-- ==== Proof.Ffn.Block.lean ====
module

public import proofs.«01_k».proof.Proof.Ffn.Buffers

/-!
What one grid point of the feed-forward kernel computes, written once for all 11 column groups: the residual row block,
its normalised form, the buffer of a column group, the activations of a group, the halves of the down-projection.
-/

@[expose] public section

set_option maxRecDepth 16384

noncomputable section

namespace Cert.KernelIdeal.Ffn

open Idealize Idealize.ShloMosaic Cert.KernelIdeal Cert.KernelIdeal.Gen

/-- 256 rows of the out-projection's weight, from row `256 q`. -/
def woRows (wo : FVec Ideal S1024x1024 .bf16) (q : Fin 4) : FVec Ideal S256x1024 .bf16 :=
  View.ld (Val := Elt Ideal) (e' := .bf16) wo (Rect.unit (s := S1024x1024) ![256 * q.val, 0] S256x1024.size (by
    intro a; fin_cases a
    · show 256 * q.val + 256 ≤ 1024; omega
    · show 0 + 1024 ≤ 1024; omega))

/-- The first three parts of the residual: the input row and three of the four projected streams. -/
def threeParts (x : FVec Ideal S1x512x1024 .f32) (ya yb yc : FVec Ideal S1x512x256 .bf16) (wo : FVec Ideal S1024x1024 .bf16) :
    FVec Ideal S512x1024 .f32 := k0_pay4 x ya (woRows wo 0) yb (woRows wo 1) yc (woRows wo 2)

/-- The fourth part: the last projected stream. -/
def lastPart (yd : FVec Ideal S1x512x256 .bf16) (wo : FVec Ideal S1024x1024 .bf16) : FVec Ideal S512x1024 .f32 :=
  k0_pay5 yd (woRows wo 3)

/-- The residual rows. -/
def residK (x : FVec Ideal S1x512x1024 .f32) (ya yb yc yd : FVec Ideal S1x512x256 .bf16) (wo : FVec Ideal S1024x1024 .bf16) :
    FVec Ideal S1x512x1024 .f32 := k0_pay7 (threeParts x ya yb yc wo) (lastPart yd wo)

/-- The normalised rows. -/
def hidK (x : FVec Ideal S1x512x1024 .f32) (ya yb yc yd : FVec Ideal S1x512x256 .bf16) (wo : FVec Ideal S1024x1024 .bf16)
    (g : FVec Ideal S1x1024 .f32) : FVec Ideal S512x1024 .bf16 := k0_pay8 (threeParts x ya yb yc wo) (lastPart yd wo) g

/-- 256 columns of an up-projection's weight, from column `256 f`. -/
def wCols (w : FVec Ideal S1024x2816 .bf16) (f : Fin 11) : FVec Ideal S1024x256 .bf16 :=
  View.ld (Val := Elt Ideal) (e' := .bf16) w (Rect.unit (s := S1024x2816) ![0, 256 * f.val] S1024x256.size (by
    intro a; fin_cases a
    · show 0 + 1024 ≤ 1024; omega
    · show 256 * f.val + 256 ≤ 2816; omega))

/-- The tile's rows in one column group. -/
def upG (h : FVec Ideal S512x1024 .bf16) (w : FVec Ideal S1024x2816 .bf16) (f : Fin 11) : FVec Ideal S512x256 .f32 :=
  k0_pay9 h (wCols w f)

/-- The halo rows of one column group. -/
def haloG (c : FVec Ideal S11x8x256 .f32) (f : Fin 11) : FVec Ideal S8x256 .f32 :=
  k0_pay10 (View.ld (Val := Elt Ideal) (e' := .f32) c (Rect.unit (s := S11x8x256) ![f.val, 0, 0] S1x8x256.size (by
    intro a; fin_cases a
    · show f.val + 1 ≤ 11; omega
    · show 0 + 8 ≤ 8; omega
    · show 0 + 256 ≤ 256; omega)))

/-- The buffer of one column group: halo, then tile. -/
def bufG (h : FVec Ideal S512x1024 .bf16) (w : FVec Ideal S1024x2816 .bf16) (c : FVec Ideal S11x8x256 .f32) (f : Fin 11) :
    FVec Ideal S520x256 .f32 := stackU (haloG c f) (upG h w f)

/-- 512 rows of a group's buffer, from row `o`. -/
def rowsFrom (u : FVec Ideal S520x256 .f32) (o : Fin 9) : FVec Ideal S512x256 .f32 :=
  View.ld (Val := Elt Ideal) (e' := .f32) u (Rect.unit (s := S520x256) ![o.val, 0] S512x256.size (by
    intro a; fin_cases a
    · show o.val + 512 ≤ 520; omega
    · show 0 + 256 ≤ 256; omega))

/-- One group's convolution weights. -/
def cwG (cw : FVec Ideal S11x3x256 .f32) (f : Fin 11) : FVec Ideal S1x3x256 .f32 :=
  View.ld (Val := Elt Ideal) (e' := .f32) cw (Rect.unit (s := S11x3x256) ![f.val, 0, 0] S1x3x256.size (by
    intro a; fin_cases a
    · show f.val + 1 ≤ 11; omega
    · show 0 + 3 ≤ 3; omega
    · show 0 + 256 ≤ 256; omega))

/-- One group's convolution bias. -/
def cbG (cb : FVec Ideal S11x1x256 .f32) (f : Fin 11) : FVec Ideal S1x1x256 .f32 :=
  View.ld (Val := Elt Ideal) (e' := .f32) cb (Rect.unit (s := S11x1x256) ![f.val, 0, 0] S1x1x256.size (by
    intro a; fin_cases a
    · show f.val + 1 ≤ 11; omega
    · show 0 + 1 ≤ 1; omega
    · show 0 + 256 ≤ 256; omega))

/-- The activations of one column group: the gate's convolution through SiLU, times the value's convolution. -/
def actG (h : FVec Ideal S512x1024 .bf16) (wg wv : FVec Ideal S1024x2816 .bf16) (cwg cwv : FVec Ideal S11x3x256 .f32)
    (cbg cbv : FVec Ideal S11x1x256 .f32) (cg cv : FVec Ideal S11x8x256 .f32) (f : Fin 11) : FVec Ideal S512x256 .bf16 :=
  k0_pay38 (k0_pay34 (cwG cwg f) (cbG cbg f) (upG h wg f) (rowsFrom (bufG h wg cg f) 6) (rowsFrom (bufG h wg cg f) 7))
    (k0_pay35 (cwG cwv f)) (k0_pay36 (cbG cbv f)) (k0_pay37 (cwG cwv f))
    (upG h wv f) (rowsFrom (bufG h wv cv f) 6) (rowsFrom (bufG h wv cv f) 7)

/-- 512 rows of the down-projection's weight, from row `512 q`. -/
def wdRows (wd : FVec Ideal S2816x1024 .bf16) (q : Fin 5) : FVec Ideal S512x1024 .bf16 :=
  View.ld (Val := Elt Ideal) (e' := .bf16) wd (Rect.unit (s := S2816x1024) ![512 * q.val, 0] S512x1024.size (by
    intro a; fin_cases a
    · show 512 * q.val + 512 ≤ 2816; omega
    · show 0 + 1024 ≤ 1024; omega))

/-- The last 256 rows of the down-projection's weight. -/
def wdLast (wd : FVec Ideal S2816x1024 .bf16) : FVec Ideal S256x1024 .bf16 :=
  View.ld (Val := Elt Ideal) (e' := .bf16) wd (Rect.unit (s := S2816x1024) ![2560, 0] S256x1024.size (by
    intro a; fin_cases a
    · show 2560 + 256 ≤ 2816; omega
    · show 0 + 1024 ≤ 1024; omega))

/-- One step of the down-projection: two groups' activations against 512 rows of the weight, added to the output so far. -/
def downStep (o : FVec Ideal S1x512x1024 .f32) (a b : FVec Ideal S512x256 .bf16) (w : FVec Ideal S512x1024 .bf16) :
    FVec Ideal S1x512x1024 .f32 := k0_pay60 (k0_pay59 o (pairA a b) w)

/-- The down-projection of all 11 groups, added to the residual. -/
def downAll (o : FVec Ideal S1x512x1024 .f32) (a : Fin 11 → FVec Ideal S512x256 .bf16) (wd : FVec Ideal S2816x1024 .bf16) :
    FVec Ideal S1x512x1024 .f32 :=
  k0_pay1 (k0_pay125 (downStep (downStep (downStep (downStep (downStep o (a 0) (a 1) (wdRows wd 0)) (a 2) (a 3) (wdRows wd 1))
    (a 4) (a 5) (wdRows wd 2)) (a 6) (a 7) (wdRows wd 3)) (a 8) (a 9) (wdRows wd 4))) (a 10) (wdLast wd)

/-- The output block of a grid point, from its input blocks and the two halo arrays. -/
def outK (x0 : FVec Ideal S1x512x1024 .f32) (x1 x2 x3 x4 : FVec Ideal S1x512x256 .bf16) (x5 : FVec Ideal S1024x1024 .bf16)
    (x6 : FVec Ideal S1x1024 .f32) (x7 x8 : FVec Ideal S1024x2816 .bf16) (x9 x10 : FVec Ideal S11x3x256 .f32)
    (x11 x12 : FVec Ideal S11x1x256 .f32) (x13 : FVec Ideal S2816x1024 .bf16) (c1 c2 : FVec Ideal S11x8x256 .f32) :
    FVec Ideal S1x512x1024 .f32 :=
  downAll (residK x0 x1 x2 x3 x4 x5) (actG (hidK x0 x1 x2 x3 x4 x5 x6) x7 x8 x9 x10 x11 x12 c1 c2) x13

/-- The halo array a grid point leaves: the last 8 rows of the tile in every column group. -/
def carryK (h : FVec Ideal S512x1024 .bf16) (w : FVec Ideal S1024x2816 .bf16) : FVec Ideal S11x8x256 .f32 := fun y =>
  upG h w (⟨(y 0).val, (y 0).isLt⟩ : Fin 11)
    (ix2 (⟨504 + (y 1).val, by have := (y 1).isLt; change (y 1).val < 8 at this; omega⟩ : Fin 512) (⟨(y 2).val, (y 2).isLt⟩ : Fin 256))

/-- What is stored of one column group for the next tile: the last 8 rows of the tile. -/
def carryP (h : FVec Ideal S512x1024 .bf16) (w : FVec Ideal S1024x2816 .bf16) (f : Fin 11) : FVec Ideal S1x8x256 .f32 :=
  k0_pay11 (View.ld (Val := Elt Ideal) (e' := .f32) (upG h w f) (Rect.unit (s := S512x256) ![504, 0] S8x256.size (by decide)))

/-- Column group `f` of the halo array. -/
def carryRect (f : Fin 11) : Rect S11x8x256 := Rect.unit (s := S11x8x256) ![f.val, 0, 0] S1x8x256.size (by
    intro a; fin_cases a
    · show f.val + 1 ≤ 11; omega
    · show 0 + 8 ≤ 8; omega
    · show 0 + 256 ≤ 256; omega)

/-- The store of one column group's rows. -/
def carryPiece (P : Fin 11 → FVec Ideal S1x8x256 .f32) (f : Fin 11) : View.Piece (Elt Ideal) S11x8x256 .f32 := ⟨carryRect f, P f⟩

/-- Reading the stored rows: row `r` of the store is row `504 + r` of the tile. -/
theorem carryP_row (u : FVec Ideal S512x256 .f32) (z : Fin 1) (r : Fin 8) (j : Fin 256) :
    k0_pay11 (View.ld (Val := Elt Ideal) (e' := .f32) u (Rect.unit (s := S512x256) ![504, 0] S8x256.size (by decide)))
      (ix3 z r j) = u (ix2 (⟨504 + r.val, by omega⟩ : Fin 512) j) := by
  pointwise! [k0_pay11]

/-- The stored rows are the group's part of the halo array. -/
theorem carryP_at (h : FVec Ideal S512x1024 .bf16) (w : FVec Ideal S1024x2816 .bf16) (f : Fin 11) (x : S1x8x256.Idx) :
    carryP h w f x = carryK h w ((carryRect f).emb x) := by
  obtain ⟨z, r, j, rfl⟩ : ∃ (z : Fin 1) (r : Fin 8) (j : Fin 256), x = ix3 z r j :=
    ⟨x 0, x 1, x 2, by funext a; fin_cases a <;> rfl⟩
  unfold carryP
  rw [carryP_row]
  unfold carryK
  have hz : z.val = 0 := by omega
  refine congrArg₂ (fun a b => upG h w a b) (Fin.ext ?_) (congrArg₂ ix2 (Fin.ext ?_) (Fin.ext ?_))
  · show f.val = f.val + 1 * z.val; omega
  · show 504 + r.val = 504 + (0 + 1 * r.val); omega
  · show j.val = 0 + 1 * j.val; omega

/-- The halo array after all 11 stores. -/
theorem canon_carry (h : FVec Ideal S512x1024 .bf16) (w : FVec Ideal S1024x2816 .bf16) (L : List (View.Piece (Elt Ideal) S11x8x256 .f32)) :
    View.canon (([10, 9, 8, 7, 6, 5, 4, 3, 2, 1, 0].map (carryPiece (carryP h w))) ++ L) = carryK h w := by
  funext y
  refine View.canon_append_of_piecesOf (carryK h w) L _ ?_ y ?_
  · exact ⟨carryP_at h w 10, carryP_at h w 9, carryP_at h w 8, carryP_at h w 7, carryP_at h w 6, carryP_at h w 5, carryP_at h w 4,
      carryP_at h w 3, carryP_at h w 2, carryP_at h w 1, carryP_at h w 0, trivial⟩
  · refine ⟨carryPiece (carryP h w) (⟨(y 0).val, (y 0).isLt⟩ : Fin 11), List.mem_map.mpr ⟨_, ?_, rfl⟩, ?_⟩
    · generalize (⟨(y 0).val, (y 0).isLt⟩ : Fin 11) = f
      revert f; decide
    · show y ∈ (carryRect _).set
      unfold carryRect
      rw [Rect.mem_set_unit]
      intro a; fin_cases a
      · exact ⟨le_refl _, Nat.lt_succ_self _⟩
      · exact ⟨Nat.zero_le _, by have := (y 1).isLt; change (y 1).val < 0 + 8; change (y 1).val < 8 at this; omega⟩
      · exact ⟨Nat.zero_le _, by have := (y 2).isLt; change (y 2).val < 0 + 256; change (y 2).val < 256 at this; omega⟩

end Cert.KernelIdeal.Ffn
-- ==== Proof.Common.Scalars.lean ====
/- Facts about single extended reals: which are real numbers, the constants the programs spell, the gate's two spellings,
   the normalised row, and a sum split into tiles. -/
module

public import Idealize.ShloMosaic.Lib.Pointwise

@[expose] public section

noncomputable section

namespace Cert.Common

open Idealize.ShloMosaic

/-- The extended real is a real number. -/
def IsReal (x : EReal) : Prop := ∃ r : ℝ, x = (r : EReal)

/-- Zero is real. -/
theorem IsReal.zero : IsReal 0 := ⟨0, rfl⟩

/-- A sum of two reals is real. -/
theorem IsReal.add {x y : EReal} : IsReal x → IsReal y → IsReal (x + y)
  | ⟨a, ha⟩, ⟨b, hb⟩ => ⟨a + b, by rw [ha, hb, EReal.coe_add]⟩

/-- A product of two reals is real. -/
theorem IsReal.mul {x y : EReal} : IsReal x → IsReal y → IsReal (x * y)
  | ⟨a, ha⟩, ⟨b, hb⟩ => ⟨a * b, by rw [ha, hb, EReal.coe_mul]⟩

/-- A finite sum of reals is real. -/
theorem IsReal.sum {ι : Type*} (s : Finset ι) (f : ι → EReal) (h : ∀ i ∈ s, IsReal (f i)) : IsReal (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

/-- Real means neither of the two infinities. -/
theorem isReal_iff {x : EReal} : IsReal x ↔ x ≠ ⊥ ∧ x ≠ ⊤ := by
  constructor
  · rintro ⟨r, rfl⟩; exact ⟨EReal.coe_ne_bot r, EReal.coe_ne_top r⟩
  · rintro ⟨h1, h2⟩; exact ⟨x.toReal, (EReal.coe_toReal h2 h1).symm⟩

/-- A sum over `A * B` terms, tile after tile of `B`. -/
theorem sum_tiles {M : Type*} [AddCommMonoid M] (A B : ℕ) (f : Fin (A * B) → M) :
    ∑ i, f i = ∑ a : Fin A, ∑ b : Fin B, f ⟨b.val + B * a.val, by
      have := (finProdFinEquiv (a, b)).isLt; simpa [finProdFinEquiv] using this⟩ := by
  rw [← finProdFinEquiv.sum_comp, Fintype.sum_prod_type]; rfl

/-- The word of one half. -/
theorem ofBits_half : Ideal.ofBits .f32 0x3F000000#32 = ((1 / 2 : ℝ) : EReal) := by
  simp [Ideal.ofBits, Ideal.ieee]
  norm_num [← EReal.coe_mul]

/-- The word of the row's width. -/
theorem ofBits_1024 : Ideal.ofBits .f32 0x44800000#32 = ((1024 : ℝ) : EReal) := by
  simp [Ideal.ofBits, Ideal.ieee]
  norm_num [← EReal.coe_mul]

/-- The constant added under the root is a positive real. -/
theorem ofBits_eps : ∃ e : ℝ, 0 < e ∧ Ideal.ofBits .f32 0x358637BD#32 = (e : EReal) := by
  refine ⟨_, ?_, by simp [Ideal.ofBits, Ideal.ieee]; rfl⟩
  positivity

/-- At a real number the two spellings of the gate agree. -/
theorem silu_real (v : EReal) (hv : IsReal v) :
    ((1 / 2 : ℝ) : EReal) * v + ((1 / 2 : ℝ) : EReal) * v * Ideal.tanh (((1 / 2 : ℝ) : EReal) * v)
      = v * Ideal.div 1 (1 + Ideal.exp (-v)) := by
  obtain ⟨r, rfl⟩ := hv
  have hpos : (0 : ℝ) < 1 + Real.exp (-r) := by positivity
  have h1 : (1 : EReal) + Ideal.exp (-(r : EReal)) = ((1 + Real.exp (-r) : ℝ) : EReal) := by
    rw [← EReal.coe_neg, Ideal.exp_coe, EReal.coe_add]; rfl
  rw [h1, Ideal.div, if_neg (by exact_mod_cast hpos.ne'), ← EReal.coe_mul, Ideal.tanh_coe, ← EReal.coe_inv, one_mul,
    ← EReal.coe_mul, ← EReal.coe_mul, ← EReal.coe_add]
  congr 1
  have e1 : Real.exp (1 / 2 * r) ≠ 0 := (Real.exp_pos _).ne'
  have e2 : Real.exp (-r) = Real.exp (-(1 / 2 * r)) * Real.exp (-(1 / 2 * r)) := by
    rw [← Real.exp_add]; congr 1; ring
  have e3 : Real.exp (1 / 2 * r) * Real.exp (-(1 / 2 * r)) = 1 := by rw [← Real.exp_add]; simp
  rw [Real.tanh_eq_sinh_div_cosh, Real.sinh_eq, Real.cosh_eq, e2]
  have hp := Real.exp_pos (1 / 2 * r)
  have hq := Real.exp_pos (-(1 / 2 * r))
  generalize Real.exp (1 / 2 * r) = p at *
  generalize Real.exp (-(1 / 2 * r)) = q at *
  have e4 : p + q ≠ 0 := (add_pos hp hq).ne'
  have e5 : 1 + q * q ≠ 0 := by positivity
  have e6 : (p - q) / 2 / ((p + q) / 2) = (p - q) / (p + q) := by field_simp
  rw [e6, ← one_div]
  have e7 : (1 : ℝ) / (1 + q * q) = p / (p + q) := by
    rw [div_eq_div_iff e5 e4]; linear_combination (-q) * e3
  rw [e7, show (p - q) / (p + q) = 2 * (p / (p + q)) - 1 by field_simp; ring]
  ring

/-- A number whose square is not infinite is real. -/
theorem mul_self_real {x : EReal} (h : x * x ≠ ⊤) : IsReal x := by
  induction x using EReal.rec with
  | bot => exact absurd EReal.bot_mul_bot h
  | top => exact absurd EReal.top_mul_top h
  | coe r => exact ⟨r, rfl⟩

/-- The root-mean-square factor of a row is `0` or the row is real and so is the factor: either way the normalised row is real,
    whatever the row. -/
theorem rms_real {n : ℕ} (row : Fin n → EReal) (c e : ℝ) (hc : 0 < c) (he : 0 < e) (d : Fin n) :
    IsReal (row d * Ideal.rsqrt (Ideal.div (∑ k, row k * row k) (c : EReal) + (e : EReal))) := by
  have hnn : ∀ k, 0 ≤ row k * row k := fun k => by
    rcases le_total 0 (row k) with h | h
    · exact mul_nonneg h h
    · exact EReal.mul_nonneg_iff.mpr (Or.inr ⟨h, h⟩)
  have hc0 : (c : EReal) ≠ 0 := by exact_mod_cast hc.ne'
  rw [Ideal.div, if_neg hc0, ← EReal.coe_inv]
  by_cases hq : ∑ k, row k * row k = ⊤
  · rw [hq, EReal.top_mul_coe_of_pos (inv_pos.mpr hc), EReal.top_add_coe, Ideal.rsqrt_top, mul_zero]
    exact IsReal.zero
  · have hr : ∀ k, IsReal (row k) := fun k => mul_self_real fun h => hq (top_le_iff.mp
      (h ▸ Finset.single_le_sum (f := fun k => row k * row k) (fun k _ => hnn k) (Finset.mem_univ k)))
    obtain ⟨q, hq'⟩ := IsReal.sum Finset.univ (fun k => row k * row k) fun k _ => (hr k).mul (hr k)
    have hq0 : 0 ≤ q := by
      have := Finset.sum_nonneg (s := Finset.univ) (f := fun k => row k * row k) fun k _ => hnn k
      rw [hq'] at this; exact_mod_cast this
    have hp : 0 < q * c⁻¹ + e := by positivity
    rw [hq', ← EReal.coe_mul, ← EReal.coe_add, Ideal.rsqrt_coe, if_neg hp.not_gt, if_neg hp.ne']
    exact (hr d).mul ⟨_, rfl⟩

end Cert.Common

end
-- ==== Proof.Ffn.BlockAt.lean ====
module

public import proofs.«01_k».proof.Proof.Ffn.Block
public import proofs.«01_k».proof.Proof.Common.Scalars

/-!
The parts of a grid point's block read at one index, each as a plain sum or product.
-/

@[expose] public section

set_option maxRecDepth 16384

noncomputable section

namespace Cert.KernelIdeal.Ffn

open Idealize Idealize.ShloMosaic Cert.KernelIdeal Cert.KernelIdeal.Gen

/-- A row block of the out-projection's weight, at an index. -/
theorem woRows_at (wo : FVec Ideal S1024x1024 .bf16) (q : Fin 4) (e : Fin 256) (d : Fin 1024) :
    woRows wo q (ix2 e d) = wo (ix2 (⟨256 * q.val + e.val, by omega⟩ : Fin 1024) d) := by
  pointwise! [woRows]

/-- A column block of an up-projection's weight, at an index. -/
theorem wCols_at (w : FVec Ideal S1024x2816 .bf16) (f : Fin 11) (d : Fin 1024) (j : Fin 256) :
    wCols w f (ix2 d j) = w (ix2 d (⟨256 * f.val + j.val, by omega⟩ : Fin 2816)) := by
  pointwise! [wCols]

/-- A row block of the down-projection's weight, at an index. -/
theorem wdRows_at (wd : FVec Ideal S2816x1024 .bf16) (q : Fin 5) (k : Fin 512) (d : Fin 1024) :
    wdRows wd q (ix2 k d) = wd (ix2 (⟨512 * q.val + k.val, by omega⟩ : Fin 2816) d) := by
  pointwise! [wdRows]

/-- The last row block of the down-projection's weight, at an index. -/
theorem wdLast_at (wd : FVec Ideal S2816x1024 .bf16) (k : Fin 256) (d : Fin 1024) :
    wdLast wd (ix2 k d) = wd (ix2 (⟨2560 + k.val, by omega⟩ : Fin 2816) d) := by
  pointwise! [wdLast]

/-- One entry of the residual block, before the last reshape. -/
theorem pay6_at (x : FVec Ideal S1x512x1024 .f32) (ya yb yc yd : FVec Ideal S1x512x256 .bf16) (wo : FVec Ideal S1024x1024 .bf16)
    (r : Fin 512) (d : Fin 1024) :
    k0_pay6 (threeParts x ya yb yc wo) (lastPart yd wo) (ix2 r d) = x (ix3 0 r d)
      + (∑ e : Fin 256, ya (ix3 0 r e) * woRows wo 0 (ix2 e d)) + (∑ e : Fin 256, yb (ix3 0 r e) * woRows wo 1 (ix2 e d))
      + (∑ e : Fin 256, yc (ix3 0 r e) * woRows wo 2 (ix2 e d)) + (∑ e : Fin 256, yd (ix3 0 r e) * woRows wo 3 (ix2 e d)) := by
  pointwise! [threeParts, lastPart, k0_pay6, k0_pay4, k0_pay5]

/-- The residual block is that entry. -/
theorem residK_eq (x : FVec Ideal S1x512x1024 .f32) (ya yb yc yd : FVec Ideal S1x512x256 .bf16) (wo : FVec Ideal S1024x1024 .bf16)
    (r : Fin 512) (d : Fin 1024) :
    residK x ya yb yc yd wo (ix3 0 r d) = k0_pay6 (threeParts x ya yb yc wo) (lastPart yd wo) (ix2 r d) := by
  pointwise! [residK, k0_pay7]

/-- The normalised rows, at an index. -/
theorem hidK_at (x : FVec Ideal S1x512x1024 .f32) (ya yb yc yd : FVec Ideal S1x512x256 .bf16) (wo : FVec Ideal S1024x1024 .bf16)
    (g : FVec Ideal S1x1024 .f32) (r : Fin 512) (d : Fin 1024) :
    hidK x ya yb yc yd wo g (ix2 r d) = residK x ya yb yc yd wo (ix3 0 r d)
      * Ideal.rsqrt (Ideal.div (∑ k : Fin 1024, residK x ya yb yc yd wo (ix3 0 r k) * residK x ya yb yc yd wo (ix3 0 r k))
        (Ideal.ofBits .f32 0x44800000#32) + Ideal.ofBits .f32 0x358637BD#32) * g (ix2 0 d) := by
  simp only [residK_eq]
  unfold hidK
  generalize threeParts x ya yb yc wo = a
  generalize lastPart yd wo = b
  pointwise! [k0_pay8]

/-- A column group's rows, at an index. -/
theorem upG_at (h : FVec Ideal S512x1024 .bf16) (w : FVec Ideal S1024x2816 .bf16) (f : Fin 11) (r : Fin 512) (j : Fin 256) :
    upG h w f (ix2 r j) = ∑ d : Fin 1024, h (ix2 r d) * wCols w f (ix2 d j) := by
  pointwise! [upG, k0_pay9]

/-- A column group's halo rows, at an index. -/
theorem haloG_at (c : FVec Ideal S11x8x256 .f32) (f : Fin 11) (r : Fin 8) (j : Fin 256) :
    haloG c f (ix2 r j) = c (ix3 f r j) := by
  pointwise! [haloG, k0_pay10]

/-- A row of the buffer read from row `o`: a halo row, or a row of the tile. -/
theorem rowsFrom_at (h : FVec Ideal S512x1024 .bf16) (w : FVec Ideal S1024x2816 .bf16) (c : FVec Ideal S11x8x256 .f32) (f : Fin 11)
    (o : Fin 9) (r : Fin 512) (j : Fin 256) :
    rowsFrom (bufG h w c f) o (ix2 r j) = if hr : o.val + r.val < 8 then c (ix3 f (⟨o.val + r.val, hr⟩ : Fin 8) j)
      else upG h w f (ix2 (⟨o.val + r.val - 8, by omega⟩ : Fin 512) j) := by
  have e : rowsFrom (bufG h w c f) o (ix2 r j) = bufG h w c f (ix2 (⟨o.val + r.val, by omega⟩ : Fin 520) j) := by
    generalize bufG h w c f = u
    pointwise! [rowsFrom]
  rw [e]
  unfold bufG stackU
  by_cases hr : o.val + r.val < 8
  · refine Eq.trans ?_ (dif_pos hr).symm
    exact (dif_pos hr).trans (haloG_at c f _ _)
  · refine Eq.trans ?_ (dif_neg hr).symm
    exact dif_neg hr

/-- The convolution of one column group at an index, from three rows of its buffer. -/
def convG (cw : FVec Ideal S11x3x256 .f32) (cb : FVec Ideal S11x1x256 .f32) (f : Fin 11) (j : Fin 256) (u8 u6 u7 : EReal) : EReal :=
  cb (ix3 f 0 j) + cw (ix3 f 2 j) * u8 + cw (ix3 f 0 j) * u6 + cw (ix3 f 1 j) * u7

/-- The activations, at an index. -/
theorem actG_at (h : FVec Ideal S512x1024 .bf16) (wg wv : FVec Ideal S1024x2816 .bf16) (cwg cwv : FVec Ideal S11x3x256 .f32)
    (cbg cbv : FVec Ideal S11x1x256 .f32) (cg cv : FVec Ideal S11x8x256 .f32) (f : Fin 11) (r : Fin 512) (j : Fin 256) (v : EReal)
    (hv : v = convG cwg cbg f j (upG h wg f (ix2 r j)) (rowsFrom (bufG h wg cg f) 6 (ix2 r j)) (rowsFrom (bufG h wg cg f) 7 (ix2 r j))) :
    actG h wg wv cwg cwv cbg cbv cg cv f (ix2 r j)
      = (Ideal.ofBits .f32 0x3F000000#32 * v + Ideal.ofBits .f32 0x3F000000#32 * v * Ideal.tanh (Ideal.ofBits .f32 0x3F000000#32 * v))
        * convG cwv cbv f j (upG h wv f (ix2 r j)) (rowsFrom (bufG h wv cv f) 6 (ix2 r j)) (rowsFrom (bufG h wv cv f) 7 (ix2 r j)) := by
  subst hv
  unfold actG convG
  generalize upG h wg f = a
  generalize upG h wv f = b
  generalize rowsFrom (bufG h wg cg f) 6 = a6
  generalize rowsFrom (bufG h wg cg f) 7 = a7
  generalize rowsFrom (bufG h wv cv f) 6 = b6
  generalize rowsFrom (bufG h wv cv f) 7 = b7
  pointwise! [k0_pay38, k0_pay34, k0_pay35, k0_pay36, k0_pay37, cwG, cbG]

/-- One step of the down-projection, at an index. -/
theorem downStep_at (o : FVec Ideal S1x512x1024 .f32) (a b : FVec Ideal S512x256 .bf16) (w : FVec Ideal S512x1024 .bf16) (r : Fin 512) (d : Fin 1024) :
    downStep o a b w (ix3 0 r d) = o (ix3 0 r d) + ((∑ j : Fin 256, a (ix2 r j) * w (ix2 (⟨j.val, by omega⟩ : Fin 512) d))
      + ∑ j : Fin 256, b (ix2 r j) * w (ix2 (⟨256 + j.val, by omega⟩ : Fin 512) d)) := by
  have e : downStep o a b w (ix3 0 r d) = o (ix3 0 r d) + ∑ k : Fin 512, pairA a b (ix2 r k) * w (ix2 k d) := by
    unfold downStep
    generalize pairA a b = p
    pointwise! [k0_pay60, k0_pay59]
  rw [e]
  refine congrArg (o (ix3 0 r d) + ·) ((Cert.Common.sum_tiles 2 256 (fun k : Fin (2 * 256) => pairA a b (ix2 r k) * w (ix2 k d))).trans ?_)
  rw [Fin.sum_univ_two]
  refine congrArg₂ (· + ·) (Finset.sum_congr rfl fun j _ => ?_) (Finset.sum_congr rfl fun j _ => ?_)
  · refine congrArg₂ (· * ·) ?_ ?_
    · refine (dif_pos (show j.val + 256 * 0 < 256 by omega)).trans ?_
      rfl
    · rfl
  · refine congrArg₂ (· * ·) ?_ ?_
    · refine (dif_neg (show ¬ (j.val + 256 * 1 < 256) by omega)).trans ?_
      exact congrArg b (congrArg (ix2 r) (Fin.ext (show j.val + 256 * 1 - 256 = j.val by omega)))
    · exact congrArg w (congrArg (fun k => ix2 k d) (Fin.ext (show j.val + 256 * 1 = 256 + j.val by omega)))

/-- The last step of the down-projection, at an index: one group's activations against 256 rows of the weight. -/
theorem downEnd_at (o : FVec Ideal S1x512x1024 .f32) (a : FVec Ideal S512x256 .bf16) (w : FVec Ideal S256x1024 .bf16) (r : Fin 512) (d : Fin 1024) :
    k0_pay1 (k0_pay125 o) a w (ix3 0 r d) = o (ix3 0 r d) + ∑ j : Fin 256, a (ix2 r j) * w (ix2 j d) := by
  pointwise! [k0_pay1, k0_pay125]

/-- One group's share of the down-projection. -/
def downTerm (a : Fin 11 → FVec Ideal S512x256 .bf16) (wd : FVec Ideal S2816x1024 .bf16) (r : Fin 512) (d : Fin 1024) (f : Fin 11) : EReal :=
  ∑ j : Fin 256, a f (ix2 r j) * wd (ix2 (⟨j.val + 256 * f.val, by omega⟩ : Fin 2816) d)

/-- The first of the two groups of a step: its share. -/
theorem share_even (a : Fin 11 → FVec Ideal S512x256 .bf16) (wd : FVec Ideal S2816x1024 .bf16) (r : Fin 512) (d : Fin 1024) (f : Fin 11) (q : Fin 5)
    (h : f.val = 2 * q.val) : (∑ j : Fin 256, a f (ix2 r j) * wdRows wd q (ix2 (⟨j.val, by omega⟩ : Fin 512) d)) = downTerm a wd r d f :=
  Finset.sum_congr rfl fun j _ => congrArg (a f (ix2 r j) * ·) ((wdRows_at wd q _ d).trans
    (congrArg wd (congrArg (fun k => ix2 k d) (Fin.ext (show 512 * q.val + j.val = j.val + 256 * f.val by omega)))))

/-- The second of the two groups of a step: its share. -/
theorem share_odd (a : Fin 11 → FVec Ideal S512x256 .bf16) (wd : FVec Ideal S2816x1024 .bf16) (r : Fin 512) (d : Fin 1024) (f : Fin 11) (q : Fin 5)
    (h : f.val = 2 * q.val + 1) : (∑ j : Fin 256, a f (ix2 r j) * wdRows wd q (ix2 (⟨256 + j.val, by omega⟩ : Fin 512) d)) = downTerm a wd r d f :=
  Finset.sum_congr rfl fun j _ => congrArg (a f (ix2 r j) * ·) ((wdRows_at wd q _ d).trans
    (congrArg wd (congrArg (fun k => ix2 k d) (Fin.ext (show 512 * q.val + (256 + j.val) = j.val + 256 * f.val by omega)))))

/-- The last group's share. -/
theorem share_last (a : Fin 11 → FVec Ideal S512x256 .bf16) (wd : FVec Ideal S2816x1024 .bf16) (r : Fin 512) (d : Fin 1024) :
    (∑ j : Fin 256, a 10 (ix2 r j) * wdLast wd (ix2 j d)) = downTerm a wd r d 10 :=
  Finset.sum_congr rfl fun j _ => congrArg (a 10 (ix2 r j) * ·) ((wdLast_at wd _ d).trans
    (congrArg wd (congrArg (fun k => ix2 k d) (Fin.ext (show 2560 + j.val = j.val + 256 * 10 by omega)))))

/-- The whole down-projection, at an index: the residual plus the 11 groups' shares. -/
theorem downAll_at (o : FVec Ideal S1x512x1024 .f32) (a : Fin 11 → FVec Ideal S512x256 .bf16) (wd : FVec Ideal S2816x1024 .bf16) (r : Fin 512) (d : Fin 1024) :
    downAll o a wd (ix3 0 r d) = o (ix3 0 r d) + ∑ f : Fin 11, downTerm a wd r d f := by
  unfold downAll
  rw [downEnd_at, downStep_at, downStep_at, downStep_at, downStep_at, downStep_at]
  rw [share_even a wd r d 0 0 rfl, share_odd a wd r d 1 0 rfl, share_even a wd r d 2 1 rfl, share_odd a wd r d 3 1 rfl,
    share_even a wd r d 4 2 rfl, share_odd a wd r d 5 2 rfl, share_even a wd r d 6 3 rfl, share_odd a wd r d 7 3 rfl,
    share_even a wd r d 8 4 rfl, share_odd a wd r d 9 4 rfl, share_last a wd r d]
  have e : (∑ f : Fin 11, downTerm a wd r d f) = downTerm a wd r d 0 + downTerm a wd r d 1 + downTerm a wd r d 2 + downTerm a wd r d 3
      + downTerm a wd r d 4 + downTerm a wd r d 5 + downTerm a wd r d 6 + downTerm a wd r d 7 + downTerm a wd r d 8 + downTerm a wd r d 9
      + downTerm a wd r d 10 := by
    simp only [Fin.sum_univ_castSucc, Fin.sum_univ_zero, zero_add]
    rfl
  rw [e]
  simp only [add_assoc]

end Cert.KernelIdeal.Ffn
-- ==== Proof.Ffn.Ref.lean ====
/- The layer's closing part in stages, each stage the reference's own host operations over the stage before:
   the mixed residual, the normalised row, the up-projection, the causal convolution, the gated unit, the result. -/
module

public import proofs.«01_k».proof.Proof.Gen.ReferenceIdeal.Run
public import Idealize.ShloMosaic.Lib.Pointwise

@[expose] public section

set_option maxRecDepth 16384

noncomputable section

namespace Cert.ReferenceIdeal.Ffn

open Idealize.ShloMosaic Idealize.ShloMosaic.TcCoe Idealize.SL.Sem
open Cert.ReferenceIdeal Cert.ReferenceIdeal.Gen

/-- The four mixers' outputs side by side. -/
def mixed (ya yb yc yd : FVec Ideal S32x2048x256 .bf16) : FVec Ideal S32x2048x1024 .f32 :=
  concatenate S32x2048x1024 2 [⟨S32x2048x256, extf .f32 ya bitsLt_bf16_f32⟩, ⟨S32x2048x256, extf .f32 yb bitsLt_bf16_f32⟩,
    ⟨S32x2048x256, extf .f32 yc bitsLt_bf16_f32⟩, ⟨S32x2048x256, extf .f32 yd bitsLt_bf16_f32⟩]
    concatenates_S32x2048x256_S32x2048x256_S32x2048x256_S32x2048x256_S32x2048x1024_d2

/-- The residual plus the mixers' outputs through the output projection. -/
def resid (x : FVec Ideal S32x2048x1024 .f32) (ya yb yc yd : FVec Ideal S32x2048x256 .bf16) (wo : FVec Ideal S1024x1024 .f32) :
    FVec Ideal S32x2048x1024 .f32 :=
  addf x (Host.dotGeneral dot_S32x2048x1024_S1024x1024_S32x2048x1024_2_0_01_1_n_n none (mixed ya yb yc yd) wo)

/-- The row divided by its root mean square, times the gain. -/
def hid (r : FVec Ideal S32x2048x1024 .f32) (g : FVec Ideal S1024 .f32) : FVec Ideal S32x2048x1024 .f32 :=
  mulf (mulf r (broadcastInDim S32x2048x1024 ![0, 1, 2] bcast_S32x2048x1_S32x2048x1024_0_1_2 (Host.rsqrt (addf
    (Host.divf (broadcastInDim S32x2048x1 ![0, 1] bcast_S32x2048_S32x2048x1_0_1
      (Host.reduceAdd (mulf r r) (constant S_ .f32 0x00000000#32) reducesTo_S32x2048x1024_S32x2048_d2 h_S_))
      (broadcastInDim S32x2048x1 ![] bcast_S_S32x2048x1 (constant S_ .f32 0x44800000#32)))
    (broadcastInDim S32x2048x1 ![] bcast_S_S32x2048x1 (constant S_ .f32 0x358637BD#32))))))
    (broadcastInDim S32x2048x1024 ![0, 1, 2] bcast_S1x1x1024_S32x2048x1024_0_1_2 (broadcastInDim S1x1x1024 ![2] bcast_S1024_S1x1x1024_2 g))

/-- The up-projection of the normalised row. -/
def upj (h : FVec Ideal S32x2048x1024 .f32) (w : FVec Ideal S1024x5632 .f32) : FVec Ideal S32x2048x5632 .f32 :=
  Host.dotGeneral dot_S32x2048x1024_S1024x5632_S32x2048x5632_2_0_01_1_n_n none h w

/-- Two zero rows before the sequence. -/
def padded (u : FVec Ideal S32x2048x5632 .f32) : FVec Ideal S32x2050x5632 .f32 :=
  pad S32x2050x5632 ![0, 2, 0] ![0, 0, 0] ![0, 0, 0] u (sitofp .f32 (constantI S_ 32 0#32)) pads_S32x2048x5632_S32x2050x5632_000_200_000 h_S_

/-- A tap of the convolution's weights along the whole array. -/
def tap (w : FVec Ideal S1x5632 .f32) : FVec Ideal S32x2048x5632 .f32 :=
  broadcastInDim S32x2048x5632 ![0, 1, 2] bcast_S1x1x5632_S32x2048x5632_0_1_2 (broadcastInDim S1x1x5632 ![2] bcast_S5632_S1x1x5632_2
    (shapeCast S5632 w shapeCasts_S1x5632_S5632))

/-- The causal convolution of three taps and its bias. -/
def conv (p : FVec Ideal S32x2050x5632 .f32) (cw : FVec Ideal S3x5632 .f32) (cb : FVec Ideal S5632 .f32) : FVec Ideal S32x2048x5632 .f32 :=
  addf (addf (addf (addf (broadcastInDim S32x2048x5632 ![] bcast_S_S32x2048x5632 (constant S_ .f32 0x00000000#32))
    (mulf (tap (extractStridedSlice S1x5632 ![0, 0] cw slices_S3x5632_S1x5632_0_0)) (extractStridedSlice S32x2048x5632 ![0, 0, 0] p slices_S32x2050x5632_S32x2048x5632_0_0_0)))
    (mulf (tap (extractStridedSlice S1x5632 ![1, 0] cw slices_S3x5632_S1x5632_1_0)) (extractStridedSlice S32x2048x5632 ![0, 1, 0] p slices_S32x2050x5632_S32x2048x5632_0_1_0)))
    (mulf (tap (extractStridedSlice S1x5632 ![2, 0] cw slices_S3x5632_S1x5632_2_0)) (extractStridedSlice S32x2048x5632 ![0, 2, 0] p slices_S32x2050x5632_S32x2048x5632_0_2_0)))
    (broadcastInDim S32x2048x5632 ![0, 1, 2] bcast_S1x1x5632_S32x2048x5632_0_1_2 (broadcastInDim S1x1x5632 ![2] bcast_S5632_S1x1x5632_2 cb))

/-- The gate half through `v ↦ v * logistic v`. -/
def gate (v : FVec Ideal S32x2048x2816 .f32) : FVec Ideal S32x2048x2816 .f32 :=
  mulf v (Host.divf (broadcastInDim S32x2048x2816 ![] bcast_S_S32x2048x2816 (constant S_ .f32 0x3F800000#32))
    (addf (broadcastInDim S32x2048x2816 ![] bcast_S_S32x2048x2816 (constant S_ .f32 0x3F800000#32)) (Host.exp (negf v))))

/-- The gated unit: the gate half's activation times the value half. -/
def unit (u : FVec Ideal S32x2048x5632 .f32) : FVec Ideal S32x2048x2816 .f32 :=
  mulf (gate (extractStridedSlice S32x2048x2816 ![0, 0, 0] u slices_S32x2048x5632_S32x2048x2816_0_0_0))
    (extractStridedSlice S32x2048x2816 ![0, 0, 2816] u slices_S32x2048x5632_S32x2048x2816_0_0_2816)

/-- The residual plus the unit through the down-projection. -/
def outp (r : FVec Ideal S32x2048x1024 .f32) (a : FVec Ideal S32x2048x2816 .f32) (wd : FVec Ideal S2816x1024 .f32) : FVec Ideal S32x2048x1024 .f32 :=
  addf r (Host.dotGeneral dot_S32x2048x2816_S2816x1024_S32x2048x1024_2_0_01_1_n_n none a wd)

end Cert.ReferenceIdeal.Ffn

end
-- ==== Proof.Ffn.RefAt.lean ====
/- The stages of the layer's closing part read at an index. -/
module

public import proofs.«01_k».proof.Proof.Ffn.Ref
public import proofs.«01_k».proof.Proof.Common.Scalars

@[expose] public section

set_option maxRecDepth 16384

noncomputable section

namespace Cert.ReferenceIdeal.Ffn

open Idealize.ShloMosaic Idealize.ShloMosaic.TcCoe Idealize.SL.Sem
open Cert.ReferenceIdeal Cert.ReferenceIdeal.Gen

/-- The reference's result is the composition of the stages. -/
theorem res_eq (m : (ℓ : Loc nD τ sig) → Buf (Elt Ideal) ℓ) (c : Dev nD) :
    Value.res_main_v52 m c =
      (let r := resid (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
       outp r (unit (conv (padded (upj (hid r (m ((c.tc : Thread nD τ).loc main_arg6))) (m ((c.tc : Thread nD τ).loc main_arg7))))
        (m ((c.tc : Thread nD τ).loc main_arg8)) (m ((c.tc : Thread nD τ).loc main_arg9)))) (m ((c.tc : Thread nD τ).loc main_arg10))) := rfl

variable (x r h : FVec Ideal S32x2048x1024 .f32) (ya yb yc yd : FVec Ideal S32x2048x256 .bf16) (wo : FVec Ideal S1024x1024 .f32)
  (g : FVec Ideal S1024 .f32) (w : FVec Ideal S1024x5632 .f32) (u : FVec Ideal S32x2048x5632 .f32) (p : FVec Ideal S32x2050x5632 .f32)
  (cw : FVec Ideal S3x5632 .f32) (cb : FVec Ideal S5632 .f32) (a : FVec Ideal S32x2048x2816 .f32) (wd : FVec Ideal S2816x1024 .f32)

/-- The residual at an index: the input plus four sums, one for each mixer's 256 channels. -/
theorem resid_at (b : Fin 32) (s : Fin 2048) (d : Fin 1024) :
    resid x ya yb yc yd wo (ix3 b s d) = x (ix3 b s d) +
      ((∑ e : Fin 256, ya (ix3 b s e) * wo (ix2 ⟨e.val, by omega⟩ d)) + (∑ e : Fin 256, yb (ix3 b s e) * wo (ix2 ⟨256 + e.val, by omega⟩ d))
        + (∑ e : Fin 256, yc (ix3 b s e) * wo (ix2 ⟨512 + e.val, by omega⟩ d)) + (∑ e : Fin 256, yd (ix3 b s e) * wo (ix2 ⟨768 + e.val, by omega⟩ d))) := by
  pointwise [resid, mixed]
  congr 1
  refine (Cert.Common.sum_tiles 4 256 _).trans ?_
  rw [Fin.sum_univ_four]
  refine congrArg₂ _ (congrArg₂ _ (congrArg₂ _ ?_ ?_) ?_) ?_ <;> refine Finset.sum_congr rfl fun e _ => ?_
  · refine congrArg₂ _ ?_ (congrArg (fun q => wo (ix2 q d)) (Fin.ext (show e.val + 256 * 0 = e.val by omega)))
    refine (dif_pos (show e.val + 256 * 0 < 256 by omega)).trans (?_)
    exact congrArg (fun q => ya (ix3 b s q)) (Fin.ext (show e.val + 256 * 0 = e.val by omega))
  · refine congrArg₂ _ ?_ (congrArg (fun q => wo (ix2 q d)) (Fin.ext (show e.val + 256 * 1 = 256 + e.val by omega)))
    refine (dif_neg (show ¬ e.val + 256 * 1 < 256 by omega)).trans ((dif_pos (show e.val + 256 * 1 - 256 < 256 by omega)).trans (?_))
    exact congrArg (fun q => yb (ix3 b s q)) (Fin.ext (show e.val + 256 * 1 - 256 = e.val by omega))
  · refine congrArg₂ _ ?_ (congrArg (fun q => wo (ix2 q d)) (Fin.ext (show e.val + 256 * 2 = 512 + e.val by omega)))
    refine (dif_neg (show ¬ e.val + 256 * 2 < 256 by omega)).trans ((dif_neg (show ¬ e.val + 256 * 2 - 256 < 256 by omega)).trans ((dif_pos (show e.val + 256 * 2 - 256 - 256 < 256 by omega)).trans (?_)))
    exact congrArg (fun q => yc (ix3 b s q)) (Fin.ext (show e.val + 256 * 2 - 256 - 256 = e.val by omega))
  · refine congrArg₂ _ ?_ (congrArg (fun q => wo (ix2 q d)) (Fin.ext (show e.val + 256 * 3 = 768 + e.val by omega)))
    refine (dif_neg (show ¬ e.val + 256 * 3 < 256 by omega)).trans ((dif_neg (show ¬ e.val + 256 * 3 - 256 < 256 by omega)).trans ((dif_neg (show ¬ e.val + 256 * 3 - 256 - 256 < 256 by omega)).trans (?_)))
    exact congrArg (fun q => yd (ix3 b s q)) (Fin.ext (show e.val + 256 * 3 - 256 - 256 - 256 = e.val by omega))

/-- The normalised row at an index. -/
theorem hid_at (b : Fin 32) (s : Fin 2048) (d : Fin 1024) :
    hid r g (ix3 b s d) = r (ix3 b s d) * Ideal.rsqrt (Ideal.div (∑ k : Fin 1024, r (ix3 b s k) * r (ix3 b s k))
      (Ideal.ofBits .f32 0x44800000#32) + Ideal.ofBits .f32 0x358637BD#32) * g (ix1 d) := by
  pointwise [hid]

/-- The up-projection at an index. -/
theorem upj_at (b : Fin 32) (s : Fin 2048) (f : Fin 5632) :
    upj h w (ix3 b s f) = ∑ d : Fin 1024, h (ix3 b s d) * w (ix2 d f) := by
  pointwise! [upj]

/-- The padded rows at an index: two rows of zeros, then the rows. -/
theorem padded_at (b : Fin 32) (s : Fin 2050) (f : Fin 5632) :
    padded u (ix3 b s f) = if hs : 2 ≤ s.val then u (ix3 b ⟨s.val - 2, by omega⟩ f) else 0 := by
  pointwise [padded]
  have h0 : (FloatOps.sitofp FTy.f32 0#32 : Ideal .f32) = 0 := by simp [FloatOps.sitofp]
  by_cases hs : 2 ≤ s.val
  · rw [dif_pos ⟨hs, by omega⟩, dif_pos hs]
  · rw [dif_neg fun h => hs h.1, dif_neg hs, h0]

/-- The convolution at an index: three taps of the padded rows, and the bias. -/
theorem conv_at (b : Fin 32) (s : Fin 2048) (f : Fin 5632) :
    conv p cw cb (ix3 b s f) = cw (ix2 0 f) * p (ix3 b ⟨s.val, by omega⟩ f) + cw (ix2 1 f) * p (ix3 b ⟨1 + s.val, by omega⟩ f)
      + cw (ix2 2 f) * p (ix3 b ⟨2 + s.val, by omega⟩ f) + cb (ix1 f) := by
  pointwise [conv, tap]

/-- The gated unit at an index: the gate times its logistic times the value. -/
theorem unit_at (b : Fin 32) (s : Fin 2048) (f : Fin 2816) :
    unit u (ix3 b s f) = u (ix3 b s ⟨f.val, by omega⟩) * Ideal.div 1 (1 + Ideal.exp (-u (ix3 b s ⟨f.val, by omega⟩)))
      * u (ix3 b s ⟨2816 + f.val, by omega⟩) := by
  pointwise [unit, gate]

/-- The result at an index. -/
theorem outp_at (b : Fin 32) (s : Fin 2048) (d : Fin 1024) :
    outp r a wd (ix3 b s d) = r (ix3 b s d) + ∑ f : Fin 2816, a (ix3 b s f) * wd (ix2 f d) := by
  pointwise! [outp]

end Cert.ReferenceIdeal.Ffn

end
-- ==== Proof.Ffn.Tie.lean ====
module

public import proofs.«01_k».proof.Proof.Ffn.Entry
public import proofs.«01_k».proof.Proof.Ffn.BlockAt
public import proofs.«01_k».proof.Proof.Ffn.RefAt

/-!
The parts of a grid point's block against the reference's stages over the whole arrays: the residual, the normalised
rows, the up-projection. Grid point `t` is tile `t % 4` of batch row `t / 4`.
-/

@[expose] public section

set_option maxRecDepth 16384

noncomputable section

namespace Cert.KernelIdeal.Ffn

open Idealize Idealize.ShloMosaic Cert.KernelIdeal Cert.KernelIdeal.Gen
open Cert.ReferenceIdeal.Ffn (resid hid upj padded conv unit outp)

variable (m : (ℓ : Loc nD τ sig) → Buf (Elt Ideal) ℓ) (c : Dev nD)

/-- The reference's residual over the arguments. -/
def aR : FVec Ideal S32x2048x1024 .f32 := resid (aX m c) (aYa m c) (aYb m c) (aYc m c) (aYd m c) (aWo m c)

/-- The reference's normalised rows. -/
def aH : FVec Ideal S32x2048x1024 .f32 := hid (aR m c) (aG m c)

/-- The reference's up-projection. -/
def aU : FVec Ideal Cert.ReferenceIdeal.S32x2048x5632 .f32 := upj (aH m c) (aWu m c)

/-- The reference's convolution. -/
def aC : FVec Ideal Cert.ReferenceIdeal.S32x2048x5632 .f32 := conv (padded (aU m c)) (aCw m c) (aCb m c)

/-- The reference's result. -/
def aOut : FVec Ideal S32x2048x1024 .f32 := outp (aR m c) (unit (aC m c)) (aWd m c)

/-- The residual block of a grid point. -/
abbrev tR (t : Fin cfg0.N) : FVec Ideal S1x512x1024 .f32 :=
  residK (iblk m c 0 t) (iblk m c 1 t) (iblk m c 2 t) (iblk m c 3 t) (iblk m c 4 t) (iblk m c 5 t)

/-- The normalised rows of a grid point. -/
abbrev tH (t : Fin cfg0.N) : FVec Ideal S512x1024 .bf16 :=
  hidK (iblk m c 0 t) (iblk m c 1 t) (iblk m c 2 t) (iblk m c 3 t) (iblk m c 4 t) (iblk m c 5 t) (iblk m c 6 t)

/-- The residual block is the reference's residual at the tile's rows. -/
theorem tR_at (t : Fin cfg0.N) (r : Fin 512) (d : Fin 1024) (b : Fin 32) (s : Fin 2048) (hb : b.val = t.val / 4)
    (hs : s.val = 512 * (t.val % 4) + r.val) : tR m c t (ix3 0 r d) = aR m c (ix3 b s d) := by
  unfold tR aR
  rw [residK_eq, pay6_at]
  refine Eq.trans ?_ (Cert.ReferenceIdeal.Ffn.resid_at _ _ _ _ _ _ b s d).symm
  simp only [add_assoc]
  refine congrArg₂ (· + ·) (blk_x m c t r d b s hb hs) (congrArg₂ (· + ·) ?_ (congrArg₂ (· + ·) ?_ (congrArg₂ (· + ·) ?_ ?_)))
  · exact Finset.sum_congr rfl fun e _ => congrArg₂ (· * ·) (blk_ya m c t r e b s hb hs) ((woRows_at _ 0 e d).trans
      ((blk_wo m c t _ d).trans (congrArg (aWo m c) (congrArg (fun k => ix2 k d) (Fin.ext (show 256 * 0 + e.val = e.val by omega))))))
  · exact Finset.sum_congr rfl fun e _ => congrArg₂ (· * ·) (blk_yb m c t r e b s hb hs) ((woRows_at _ 1 e d).trans
      ((blk_wo m c t _ d).trans (congrArg (aWo m c) (congrArg (fun k => ix2 k d) (Fin.ext (show 256 * 1 + e.val = 256 + e.val by omega))))))
  · exact Finset.sum_congr rfl fun e _ => congrArg₂ (· * ·) (blk_yc m c t r e b s hb hs) ((woRows_at _ 2 e d).trans
      ((blk_wo m c t _ d).trans (congrArg (aWo m c) (congrArg (fun k => ix2 k d) (Fin.ext (show 256 * 2 + e.val = 512 + e.val by omega))))))
  · exact Finset.sum_congr rfl fun e _ => congrArg₂ (· * ·) (blk_yd m c t r e b s hb hs) ((woRows_at _ 3 e d).trans
      ((blk_wo m c t _ d).trans (congrArg (aWo m c) (congrArg (fun k => ix2 k d) (Fin.ext (show 256 * 3 + e.val = 768 + e.val by omega))))))

/-- The normalised rows are the reference's at the tile's rows. -/
theorem tH_at (t : Fin cfg0.N) (r : Fin 512) (d : Fin 1024) (b : Fin 32) (s : Fin 2048) (hb : b.val = t.val / 4)
    (hs : s.val = 512 * (t.val % 4) + r.val) : tH m c t (ix2 r d) = aH m c (ix3 b s d) := by
  refine (hidK_at _ _ _ _ _ _ _ r d).trans (Eq.trans ?_ (Cert.ReferenceIdeal.Ffn.hid_at (aR m c) (aG m c) b s d).symm)
  have e : ∀ k : Fin 1024, tR m c t (ix3 0 r k) = aR m c (ix3 b s k) := fun k => tR_at m c t r k b s hb hs
  refine congrArg₂ (· * ·) (congrArg₂ (· * ·) (e d) (congrArg (fun z => Ideal.rsqrt (Ideal.div z (Ideal.ofBits .f32 0x44800000#32) + Ideal.ofBits .f32 0x358637BD#32))
    (Finset.sum_congr rfl fun k _ => congrArg₂ (· * ·) (e k) (e k)))) (blk_g m c t d)

/-- The gate half of the up-projection, one column group of a tile. -/
theorem upg_at (t : Fin cfg0.N) (f : Fin 11) (r : Fin 512) (j : Fin 256) (b : Fin 32) (s : Fin 2048) (k : Fin 5632) (hb : b.val = t.val / 4)
    (hs : s.val = 512 * (t.val % 4) + r.val) (hk : k.val = 256 * f.val + j.val) :
    upG (tH m c t) (iblk m c 7 t) f (ix2 r j) = aU m c (ix3 b s k) := by
  refine (upG_at _ _ f r j).trans (Eq.trans ?_ (Cert.ReferenceIdeal.Ffn.upj_at (aH m c) (aWu m c) b s k).symm)
  exact Finset.sum_congr rfl fun d _ => congrArg₂ (· * ·) (tH_at m c t r d b s hb hs) ((wCols_at _ f d j).trans (blk_wg m c t d _ k hk))

/-- The value half of the up-projection, one column group of a tile. -/
theorem upv_at (t : Fin cfg0.N) (f : Fin 11) (r : Fin 512) (j : Fin 256) (b : Fin 32) (s : Fin 2048) (k : Fin 5632) (hb : b.val = t.val / 4)
    (hs : s.val = 512 * (t.val % 4) + r.val) (hk : k.val = 2816 + 256 * f.val + j.val) :
    upG (tH m c t) (iblk m c 8 t) f (ix2 r j) = aU m c (ix3 b s k) := by
  refine (upG_at _ _ f r j).trans (Eq.trans ?_ (Cert.ReferenceIdeal.Ffn.upj_at (aH m c) (aWu m c) b s k).symm)
  exact Finset.sum_congr rfl fun d _ => congrArg₂ (· * ·) (tH_at m c t r d b s hb hs) ((wCols_at _ f d j).trans
    (blk_wv m c t d _ k (by show k.val = 2816 + (256 * f.val + j.val); omega)))

/-- Rows of a group's buffer against the reference's padded rows: `u` is the group's up-projection, `p` its padding by two zero rows, and the halo
    array holds the 8 rows before the tile (zeros at the first tile). Row `o + r` of the buffer, `o` being 6 or 7, is padded row `s + o - 6`. -/
theorem rows_padded (t : Fin cfg0.N) (w : FVec Ideal S1024x2816 .bf16) (h : FVec Ideal S512x1024 .bf16) (hc : FVec Ideal S11x8x256 .f32) (f : Fin 11)
    (j : Fin 256) (k : Fin 5632) (b : Fin 32) (hb : b.val = t.val / 4)
    (hu : ∀ (r : Fin 512) (s : Fin 2048), s.val = 512 * (t.val % 4) + r.val → upG h w f (ix2 r j) = aU m c (ix3 b s k))
    (h0 : t.val % 4 = 0 → ∀ r : Fin 8, hc (ix3 f r j) = 0)
    (h1 : t.val % 4 ≠ 0 → ∀ (r : Fin 8) (s : Fin 2048), s.val + 8 = 512 * (t.val % 4) + r.val → hc (ix3 f r j) = aU m c (ix3 b s k))
    (o : Fin 9) (r : Fin 512) (s : Fin 2048) (hs : s.val = 512 * (t.val % 4) + r.val) (q : Fin 2050) (hq : q.val + 6 = s.val + o.val) (ho : 6 ≤ o.val) :
    rowsFrom (bufG h w hc f) o (ix2 r j) = padded (aU m c) (ix3 b q k) := by
  refine (rowsFrom_at h w hc f o r j).trans (Eq.trans ?_ (Cert.ReferenceIdeal.Ffn.padded_at (aU m c) b q k).symm)
  have hlt := s.isLt
  by_cases hr : o.val + r.val < 8
  · refine (dif_pos hr).trans ?_
    by_cases hz : t.val % 4 = 0
    · refine Eq.trans ?_ (dif_neg (show ¬ 2 ≤ q.val by omega)).symm
      exact h0 hz _
    · refine Eq.trans ?_ (dif_pos (show 2 ≤ q.val by omega)).symm
      exact h1 hz _ _ (by show q.val - 2 + 8 = 512 * (t.val % 4) + (o.val + r.val); omega)
  · refine (dif_neg hr).trans (Eq.trans ?_ (dif_pos (show 2 ≤ q.val by omega)).symm)
    exact hu _ _ (by show q.val - 2 = 512 * (t.val % 4) + (o.val + r.val - 8); omega)

/-- The convolution of one entry, from rows of a group's buffer, is the reference's. -/
theorem conv_tie (f : Fin 11) (r : Fin 512) (j : Fin 256) (b : Fin 32) (s : Fin 2048) (k : Fin 5632) (cw : FVec Ideal S11x3x256 .f32)
    (cb : FVec Ideal S11x1x256 .f32) (u8 u6 u7 : EReal) (hcw : ∀ i : Fin 3, cw (ix3 f i j) = aCw m c (ix2 i k)) (hcb : cb (ix3 f 0 j) = aCb m c (ix1 k))
    (h8 : u8 = aU m c (ix3 b s k)) (h6 : u6 = padded (aU m c) (ix3 b (⟨s.val, by omega⟩ : Fin 2050) k))
    (h7 : u7 = padded (aU m c) (ix3 b (⟨1 + s.val, by omega⟩ : Fin 2050) k)) : convG cw cb f j u8 u6 u7 = aC m c (ix3 b s k) := by
  refine Eq.trans ?_ (Cert.ReferenceIdeal.Ffn.conv_at (padded (aU m c)) (aCw m c) (aCb m c) b s k).symm
  have e8 : padded (aU m c) (ix3 b (⟨2 + s.val, by omega⟩ : Fin 2050) k) = u8 := by
    rw [h8]
    refine (Cert.ReferenceIdeal.Ffn.padded_at (aU m c) b _ k).trans ((dif_pos (by show 2 ≤ 2 + s.val; omega)).trans ?_)
    exact congrArg (aU m c) (congrArg (fun z => ix3 b z k) (Fin.ext (show 2 + s.val - 2 = s.val by omega)))
  rw [e8, ← h6, ← h7]
  unfold convG
  rw [hcw, hcw, hcw, hcb]
  abel

end Cert.KernelIdeal.Ffn
-- ==== Proof.Ffn.PointFirst.lean ====
module

public import proofs.«01_k».proof.Proof.Gen.KernelIdeal.Frame
public import proofs.«01_k».proof.Proof.Ffn.Block
public import Idealize.ShloMosaic.Lib.Pipeline.ReadBack
public import Idealize.ShloMosaic.Lib.Pipeline.ValueKit

/-!
What a grid point at the first tile of a batch leaves: its output block and the two halo arrays. The halo it reads is the zero fill.
-/

@[expose] public section

set_option maxRecDepth 16384
set_option maxHeartbeats 400000

noncomputable section

namespace Cert.KernelIdeal.Ffn

open Idealize Idealize.ShloMosaic Cert.KernelIdeal Cert.KernelIdeal.Gen

variable (c : Dev nD) (i : grid0.Coords) (arg2 : Memref sig .tc .vmem S1x512x1024 .f32) (harg2 : arg2.IsWhole) (arg3 : Memref sig .tc .vmem S1x512x256 .bf16) (harg3 : arg3.IsWhole) (arg4 : Memref sig .tc .vmem S1x512x256 .bf16) (harg4 : arg4.IsWhole) (arg5 : Memref sig .tc .vmem S1x512x256 .bf16) (harg5 : arg5.IsWhole) (arg6 : Memref sig .tc .vmem S1x512x256 .bf16) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1024x2816 .bf16) (harg9 : arg9.IsWhole) (arg10 : Memref sig .tc .vmem S1024x2816 .bf16) (harg10 : arg10.IsWhole) (arg11 : Memref sig .tc .vmem S11x3x256 .f32) (harg11 : arg11.IsWhole) (arg12 : Memref sig .tc .vmem S11x3x256 .f32) (harg12 : arg12.IsWhole) (arg13 : Memref sig .tc .vmem S11x1x256 .f32) (harg13 : arg13.IsWhole) (arg14 : Memref sig .tc .vmem S11x1x256 .f32) (harg14 : arg14.IsWhole) (arg15 : Memref sig .tc .vmem S2816x1024 .bf16) (harg15 : arg15.IsWhole) (arg16 : Memref sig .tc .vmem S1x512x1024 .f32) (harg16 : arg16.IsWhole) (arg17 : Memref sig .tc .vmem S512x1024 .bf16) (harg17 : arg17.IsWhole) (arg18 : Memref sig .tc .vmem S11x8x256 .f32) (harg18 : arg18.IsWhole) (arg19 : Memref sig .tc .vmem S11x8x256 .f32) (harg19 : arg19.IsWhole) (arg20 : Memref sig .tc .vmem S512x512 .bf16) (harg20 : arg20.IsWhole) (arg21 : Memref sig .tc .vmem S512x512 .bf16) (harg21 : arg21.IsWhole) (arg22 : Memref sig .tc .vmem S520x256 .f32) (harg22 : arg22.IsWhole) (arg23 : Memref sig .tc .vmem S520x256 .f32) (harg23 : arg23.IsWhole) (arg24 : Memref sig .tc .vmem S520x256 .f32) (harg24 : arg24.IsWhole) (arg25 : Memref sig .tc .vmem S520x256 .f32) (harg25 : arg25.IsWhole) (arg26 : Memref sig .tc .vmem S520x256 .f32) (harg26 : arg26.IsWhole) (arg27 : Memref sig .tc .vmem S520x256 .f32) (harg27 : arg27.IsWhole) (arg28 : Memref sig .tc .vmem S520x256 .f32) (harg28 : arg28.IsWhole) (arg29 : Memref sig .tc .vmem S520x256 .f32) (harg29 : arg29.IsWhole)
  (x0 : Vec Ideal S1x512x1024 .f32) (x1 : Vec Ideal S1x512x256 .bf16) (x2 : Vec Ideal S1x512x256 .bf16) (x3 : Vec Ideal S1x512x256 .bf16) (x4 : Vec Ideal S1x512x256 .bf16) (x5 : Vec Ideal S1024x1024 .bf16) (x6 : Vec Ideal S1x1024 .f32) (x7 : Vec Ideal S1024x2816 .bf16) (x8 : Vec Ideal S1024x2816 .bf16) (x9 : Vec Ideal S11x3x256 .f32) (x10 : Vec Ideal S11x3x256 .f32) (x11 : Vec Ideal S11x1x256 .f32) (x12 : Vec Ideal S11x1x256 .f32) (x13 : Vec Ideal S2816x1024 .bf16) (hc0 : cond0_0 i)

/-- The output block of such a point. -/
theorem out_A : out0_A_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13
    = outK x0 x1 x2 x3 x4 x5 x6 x7 x8 x9 x10 x11 x12 x13 k0_pay2 k0_pay3 := by
  unfold out0_A_14
  frame_open
  simp (disch := decide) only [↓ readCov_stackU, ↓ readCov_pairA, ↓ View.readCov_skip, ↓ View.readCov_cons_toLoadRect, ↓ View.readCov_fill]
  frame_out
  rfl

/-- The halo rows of the gate half such a point leaves. -/
theorem halo_A_1 : sout0_A_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13
    = carryK (hidK x0 x1 x2 x3 x4 x5 x6) x7 := by
  unfold sout0_A_1
  frame_open
  simp (disch := decide) only [↓ readCov_stackU, ↓ readCov_pairA, ↓ readCov_tail, ↓ View.readCov_skip, ↓ View.readCov_cons_toLoadRect, ↓ View.readCov_fill]
  frame_out
  exact canon_carry (hidK x0 x1 x2 x3 x4 x5 x6) x7 _

/-- The halo rows of the value half such a point leaves. -/
theorem halo_A_2 : sout0_A_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13
    = carryK (hidK x0 x1 x2 x3 x4 x5 x6) x8 := by
  unfold sout0_A_2
  frame_open
  simp (disch := decide) only [↓ readCov_stackU, ↓ readCov_pairA, ↓ readCov_tail, ↓ View.readCov_skip, ↓ View.readCov_cons_toLoadRect, ↓ View.readCov_fill]
  frame_out
  exact canon_carry (hidK x0 x1 x2 x3 x4 x5 x6) x8 _

end Cert.KernelIdeal.Ffn
-- ==== Proof.Ffn.PointNext.lean ====
module

public import proofs.«01_k».proof.Proof.Gen.KernelIdeal.Frame
public import proofs.«01_k».proof.Proof.Ffn.Block
public import Idealize.ShloMosaic.Lib.Pipeline.ReadBack
public import Idealize.ShloMosaic.Lib.Pipeline.ValueKit

/-!
What a grid point at a later tile of a batch leaves: its output block and the two halo arrays. The halo it reads is what the point before left.
-/

@[expose] public section

set_option maxRecDepth 16384
set_option maxHeartbeats 400000

noncomputable section

namespace Cert.KernelIdeal.Ffn

open Idealize Idealize.ShloMosaic Cert.KernelIdeal Cert.KernelIdeal.Gen

variable (c : Dev nD) (i : grid0.Coords) (arg2 : Memref sig .tc .vmem S1x512x1024 .f32) (harg2 : arg2.IsWhole) (arg3 : Memref sig .tc .vmem S1x512x256 .bf16) (harg3 : arg3.IsWhole) (arg4 : Memref sig .tc .vmem S1x512x256 .bf16) (harg4 : arg4.IsWhole) (arg5 : Memref sig .tc .vmem S1x512x256 .bf16) (harg5 : arg5.IsWhole) (arg6 : Memref sig .tc .vmem S1x512x256 .bf16) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1024x2816 .bf16) (harg9 : arg9.IsWhole) (arg10 : Memref sig .tc .vmem S1024x2816 .bf16) (harg10 : arg10.IsWhole) (arg11 : Memref sig .tc .vmem S11x3x256 .f32) (harg11 : arg11.IsWhole) (arg12 : Memref sig .tc .vmem S11x3x256 .f32) (harg12 : arg12.IsWhole) (arg13 : Memref sig .tc .vmem S11x1x256 .f32) (harg13 : arg13.IsWhole) (arg14 : Memref sig .tc .vmem S11x1x256 .f32) (harg14 : arg14.IsWhole) (arg15 : Memref sig .tc .vmem S2816x1024 .bf16) (harg15 : arg15.IsWhole) (arg16 : Memref sig .tc .vmem S1x512x1024 .f32) (harg16 : arg16.IsWhole) (arg17 : Memref sig .tc .vmem S512x1024 .bf16) (harg17 : arg17.IsWhole) (arg18 : Memref sig .tc .vmem S11x8x256 .f32) (harg18 : arg18.IsWhole) (arg19 : Memref sig .tc .vmem S11x8x256 .f32) (harg19 : arg19.IsWhole) (arg20 : Memref sig .tc .vmem S512x512 .bf16) (harg20 : arg20.IsWhole) (arg21 : Memref sig .tc .vmem S512x512 .bf16) (harg21 : arg21.IsWhole) (arg22 : Memref sig .tc .vmem S520x256 .f32) (harg22 : arg22.IsWhole) (arg23 : Memref sig .tc .vmem S520x256 .f32) (harg23 : arg23.IsWhole) (arg24 : Memref sig .tc .vmem S520x256 .f32) (harg24 : arg24.IsWhole) (arg25 : Memref sig .tc .vmem S520x256 .f32) (harg25 : arg25.IsWhole) (arg26 : Memref sig .tc .vmem S520x256 .f32) (harg26 : arg26.IsWhole) (arg27 : Memref sig .tc .vmem S520x256 .f32) (harg27 : arg27.IsWhole) (arg28 : Memref sig .tc .vmem S520x256 .f32) (harg28 : arg28.IsWhole) (arg29 : Memref sig .tc .vmem S520x256 .f32) (harg29 : arg29.IsWhole)
  (x0 : Vec Ideal S1x512x1024 .f32) (x1 : Vec Ideal S1x512x256 .bf16) (x2 : Vec Ideal S1x512x256 .bf16) (x3 : Vec Ideal S1x512x256 .bf16) (x4 : Vec Ideal S1x512x256 .bf16) (x5 : Vec Ideal S1024x1024 .bf16) (x6 : Vec Ideal S1x1024 .f32) (x7 : Vec Ideal S1024x2816 .bf16) (x8 : Vec Ideal S1024x2816 .bf16) (x9 : Vec Ideal S11x3x256 .f32) (x10 : Vec Ideal S11x3x256 .f32) (x11 : Vec Ideal S11x1x256 .f32) (x12 : Vec Ideal S11x1x256 .f32) (x13 : Vec Ideal S2816x1024 .bf16) (xs1 xs2 : Vec Ideal S11x8x256 .f32) (hc0 : ¬cond0_0 i)

/-- The output block of such a point. -/
theorem out_B : out0_B_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 xs1 xs2
    = outK x0 x1 x2 x3 x4 x5 x6 x7 x8 x9 x10 x11 x12 x13 xs1 xs2 := by
  unfold out0_B_14
  frame_open
  simp (disch := decide) only [↓ readCov_stackU, ↓ readCov_pairA, ↓ View.readCov_skip, ↓ View.readCov_cons_toLoadRect, ↓ View.readCov_fill]
  frame_out
  rfl

/-- The halo rows of the gate half such a point leaves. -/
theorem halo_B_1 : sout0_B_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 xs1 xs2
    = carryK (hidK x0 x1 x2 x3 x4 x5 x6) x7 := by
  unfold sout0_B_1
  frame_open
  simp (disch := decide) only [↓ readCov_stackU, ↓ readCov_pairA, ↓ readCov_tail, ↓ View.readCov_skip, ↓ View.readCov_cons_toLoadRect, ↓ View.readCov_fill]
  frame_out
  exact canon_carry (hidK x0 x1 x2 x3 x4 x5 x6) x7 []

/-- The halo rows of the value half such a point leaves. -/
theorem halo_B_2 : sout0_B_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 xs1 xs2
    = carryK (hidK x0 x1 x2 x3 x4 x5 x6) x8 := by
  unfold sout0_B_2
  frame_open
  simp (disch := decide) only [↓ readCov_stackU, ↓ readCov_pairA, ↓ readCov_tail, ↓ View.readCov_skip, ↓ View.readCov_cons_toLoadRect, ↓ View.readCov_fill]
  frame_out
  exact canon_carry (hidK x0 x1 x2 x3 x4 x5 x6) x8 []

end Cert.KernelIdeal.Ffn
-- ==== Proof.Ffn.Points.lean ====
module

public import proofs.«01_k».proof.Proof.Ffn.Tie
public import proofs.«01_k».proof.Proof.Ffn.PointFirst
public import proofs.«01_k».proof.Proof.Ffn.PointNext

/-!
What every grid point leaves: the halo arrays hold the last 8 rows of the tile's up-projection, and the output block is
the block function of the tile's inputs and of the halo arrays the point before left (zeros at the first tile of a row).
-/

@[expose] public section

set_option maxRecDepth 16384

noncomputable section

namespace Cert.KernelIdeal.Ffn

open Idealize Idealize.ShloMosaic Cert.KernelIdeal Cert.KernelIdeal.Gen

variable (m : (ℓ : Loc nD τ sig) → Buf (Elt Ideal) ℓ) (c : Dev nD)

/-- The gate halves' halo after a grid point. -/
theorem left_gate (t : Fin cfg0.N) : (outsAt0 m c t.val t.isLt).2.1 = carryK (tH m c t) (iblk m c 7 t) := by
  by_cases h : t.val % 4 = 0
  · rw [outsAt0_A m c t h]
    dsimp only
    rw [halo_A_1]
  · rw [outsAt0_B m c t h]
    dsimp only
    exact halo_B_1 ..

/-- The value halves' halo after a grid point. -/
theorem left_value (t : Fin cfg0.N) : (outsAt0 m c t.val t.isLt).2.2 = carryK (tH m c t) (iblk m c 8 t) := by
  by_cases h : t.val % 4 = 0
  · rw [outsAt0_A m c t h]
    dsimp only
    rw [halo_A_2]
  · rw [outsAt0_B m c t h]
    dsimp only
    exact halo_B_2 ..

/-- The output block of a grid point over halo arrays `c1`, `c2`. -/
abbrev tOut (t : Fin cfg0.N) (c1 c2 : FVec Ideal S11x8x256 .f32) : FVec Ideal S1x512x1024 .f32 :=
  outK (iblk m c 0 t) (iblk m c 1 t) (iblk m c 2 t) (iblk m c 3 t) (iblk m c 4 t) (iblk m c 5 t) (iblk m c 6 t) (iblk m c 7 t) (iblk m c 8 t)
    (iblk m c 9 t) (iblk m c 10 t) (iblk m c 11 t) (iblk m c 12 t) (iblk m c 13 t) c1 c2

/-- A halo row in terms of the up-projection: row `r` of the halo is row `504 + r` of the tile it was taken from. -/
theorem carry_at (h : FVec Ideal S512x1024 .bf16) (w : FVec Ideal S1024x2816 .bf16) (f : Fin 11) (r : Fin 8) (j : Fin 256) :
    carryK h w (ix3 f r j) = upG h w f (ix2 (⟨504 + r.val, by omega⟩ : Fin 512) j) := rfl

/-- The zero fill of the halo, at an index. -/
theorem zero_at (f : Fin 11) (r : Fin 8) (j : Fin 256) : k0_pay2 (F := Ideal) (ix3 f r j) = 0 := by
  pointwise [k0_pay2]

/-- The zero fill of the other halo, at an index. -/
theorem zero_at' (f : Fin 11) (r : Fin 8) (j : Fin 256) : k0_pay3 (F := Ideal) (ix3 f r j) = 0 := by
  pointwise [k0_pay3]

/-- The output block of a grid point, with the two halo arrays it reads: zeros at the first tile of a batch row, else the 8 rows before the tile. -/
theorem left_out (t : Fin cfg0.N) : ∃ c1 c2 : FVec Ideal S11x8x256 .f32, (outsAt0 m c t.val t.isLt).1 = tOut m c t c1 c2
    ∧ (t.val % 4 = 0 → ∀ (f : Fin 11) (r : Fin 8) (j : Fin 256), c1 (ix3 f r j) = 0 ∧ c2 (ix3 f r j) = 0)
    ∧ (t.val % 4 ≠ 0 → ∀ (f : Fin 11) (r : Fin 8) (j : Fin 256) (b : Fin 32) (s : Fin 2048), b.val = t.val / 4 →
        s.val + 8 = 512 * (t.val % 4) + r.val → (∀ k : Fin 5632, k.val = 256 * f.val + j.val → c1 (ix3 f r j) = aU m c (ix3 b s k))
        ∧ (∀ k : Fin 5632, k.val = 2816 + 256 * f.val + j.val → c2 (ix3 f r j) = aU m c (ix3 b s k))) := by
  by_cases h : t.val % 4 = 0
  · refine ⟨k0_pay2, k0_pay3, ?_, fun _ f r j => ⟨zero_at f r j, zero_at' f r j⟩, fun hn => absurd h hn⟩
    rw [outsAt0_A m c t h]
    dsimp only
    rw [out_A]
  · have hlt : t.val - 1 < cfg0.N := Nat.lt_of_le_of_lt (Nat.sub_le _ _) t.isLt
    refine ⟨carryK (tH m c ⟨t.val - 1, hlt⟩) (iblk m c 7 ⟨t.val - 1, hlt⟩), carryK (tH m c ⟨t.val - 1, hlt⟩) (iblk m c 8 ⟨t.val - 1, hlt⟩), ?_,
      fun hz => absurd hz h, fun _ f r j b s hb hs => ⟨fun k hk => ?_, fun k hk => ?_⟩⟩
    · rw [← left_gate m c ⟨t.val - 1, hlt⟩, ← left_value m c ⟨t.val - 1, hlt⟩, outsAt0_B m c t h]
      dsimp only
      exact out_B ..
    · rw [carry_at]
      exact upg_at m c ⟨t.val - 1, hlt⟩ f _ j b s k (by show b.val = (t.val - 1) / 4; omega)
        (by show s.val = 512 * ((t.val - 1) % 4) + (504 + r.val); omega) hk
    · rw [carry_at]
      exact upv_at m c ⟨t.val - 1, hlt⟩ f _ j b s k (by show b.val = (t.val - 1) / 4; omega)
        (by show s.val = 512 * ((t.val - 1) % 4) + (504 + r.val); omega) hk

end Cert.KernelIdeal.Ffn
-- ==== Proof.Ffn.Gate.lean ====
module

public import proofs.«01_k».proof.Proof.Ffn.Points

/-!
The gate is a real number where the gate's parameters are: a normalised row is real whatever the row holds, so its
projection, the projection's padding and the convolution of it are real. At a real gate the kernel's spelling of the
unit through the hyperbolic tangent is the reference's through the logistic.
-/

@[expose] public section

set_option maxRecDepth 16384

noncomputable section

namespace Cert.KernelIdeal.Ffn

open Idealize Idealize.ShloMosaic Cert.KernelIdeal Cert.KernelIdeal.Gen
open Cert.ReferenceIdeal.Ffn (resid hid upj padded conv unit outp)
open Cert.Common (IsReal)

variable (m : (ℓ : Loc nD τ sig) → Buf (Elt Ideal) ℓ) (c : Dev nD)

/-- The parameters the gate is computed with are real numbers: the norm's gains, and the gate halves of the up-projection's
    weight, of the convolution's taps and of its bias. -/
structure GateReal : Prop where
  /-- The gains of the norm. -/
  gain : ∀ d : Fin 1024, IsReal (aG m c (ix1 d))
  /-- The gate half of the up-projection's weight. -/
  up : ∀ (d : Fin 1024) (k : Fin 5632), k.val < 2816 → IsReal (aWu m c (ix2 d k))
  /-- The gate half of the convolution's taps. -/
  tap : ∀ (i : Fin 3) (k : Fin 5632), k.val < 2816 → IsReal (aCw m c (ix2 i k))
  /-- The gate half of the convolution's bias. -/
  bias : ∀ k : Fin 5632, k.val < 2816 → IsReal (aCb m c (ix1 k))

variable {m c}

/-- A normalised row is real. -/
theorem GateReal.hid (h : GateReal m c) (b : Fin 32) (s : Fin 2048) (d : Fin 1024) : IsReal (aH m c (ix3 b s d)) := by
  unfold aH
  rw [Cert.ReferenceIdeal.Ffn.hid_at]
  obtain ⟨e, he, hE⟩ := Cert.Common.ofBits_eps
  rw [hE, Cert.Common.ofBits_1024]
  exact (Cert.Common.rms_real (fun k => aR m c (ix3 b s k)) 1024 e (by norm_num) he d).mul (h.gain d)

/-- The gate half of the up-projection is real. -/
theorem GateReal.upj (h : GateReal m c) (b : Fin 32) (s : Fin 2048) (k : Fin 5632) (hk : k.val < 2816) : IsReal (aU m c (ix3 b s k)) := by
  unfold aU
  rw [Cert.ReferenceIdeal.Ffn.upj_at]
  exact IsReal.sum _ _ fun d _ => (h.hid b s d).mul (h.up d k hk)

/-- So is its padding. -/
theorem GateReal.padded (h : GateReal m c) (b : Fin 32) (q : Fin 2050) (k : Fin 5632) (hk : k.val < 2816) :
    IsReal (padded (aU m c) (ix3 b q k)) := by
  rw [Cert.ReferenceIdeal.Ffn.padded_at]
  by_cases hq : 2 ≤ q.val
  · rw [dif_pos hq]
    exact h.upj b _ k hk
  · rw [dif_neg hq]
    exact IsReal.zero

/-- So is the gate. -/
theorem GateReal.conv (h : GateReal m c) (b : Fin 32) (s : Fin 2048) (k : Fin 5632) (hk : k.val < 2816) : IsReal (aC m c (ix3 b s k)) := by
  unfold aC
  rw [Cert.ReferenceIdeal.Ffn.conv_at]
  exact ((((h.tap 0 k hk).mul (h.padded b _ k hk)).add ((h.tap 1 k hk).mul (h.padded b _ k hk))).add
    ((h.tap 2 k hk).mul (h.padded b _ k hk))).add (h.bias k hk)

/-- The activations of one column group of a tile are the reference's unit. -/
theorem GateReal.act (h : GateReal m c) (t : Fin cfg0.N) (c1 c2 : FVec Ideal S11x8x256 .f32)
    (h0 : t.val % 4 = 0 → ∀ (f : Fin 11) (r : Fin 8) (j : Fin 256), c1 (ix3 f r j) = 0 ∧ c2 (ix3 f r j) = 0)
    (h1 : t.val % 4 ≠ 0 → ∀ (f : Fin 11) (r : Fin 8) (j : Fin 256) (b : Fin 32) (s : Fin 2048), b.val = t.val / 4 →
        s.val + 8 = 512 * (t.val % 4) + r.val → (∀ k : Fin 5632, k.val = 256 * f.val + j.val → c1 (ix3 f r j) = aU m c (ix3 b s k))
        ∧ (∀ k : Fin 5632, k.val = 2816 + 256 * f.val + j.val → c2 (ix3 f r j) = aU m c (ix3 b s k)))
    (f : Fin 11) (r : Fin 512) (j : Fin 256) (b : Fin 32) (s : Fin 2048) (hb : b.val = t.val / 4) (hs : s.val = 512 * (t.val % 4) + r.val) :
    actG (tH m c t) (iblk m c 7 t) (iblk m c 8 t) (iblk m c 9 t) (iblk m c 10 t) (iblk m c 11 t) (iblk m c 12 t) c1 c2 f (ix2 r j)
      = unit (aC m c) (ix3 b s (⟨j.val + 256 * f.val, by omega⟩ : Fin 2816)) := by
  have hlt := s.isLt
  obtain ⟨kg, hkg⟩ : ∃ k : Fin 5632, k.val = 256 * f.val + j.val := ⟨⟨256 * f.val + j.val, by omega⟩, rfl⟩
  obtain ⟨kv, hkv⟩ : ∃ k : Fin 5632, k.val = 2816 + 256 * f.val + j.val := ⟨⟨2816 + 256 * f.val + j.val, by omega⟩, rfl⟩
  have ug : ∀ (r : Fin 512) (s : Fin 2048), s.val = 512 * (t.val % 4) + r.val → upG (tH m c t) (iblk m c 7 t) f (ix2 r j) = aU m c (ix3 b s kg) :=
    fun r s hs => upg_at m c t f r j b s kg hb hs hkg
  have uv : ∀ (r : Fin 512) (s : Fin 2048), s.val = 512 * (t.val % 4) + r.val → upG (tH m c t) (iblk m c 8 t) f (ix2 r j) = aU m c (ix3 b s kv) :=
    fun r s hs => upv_at m c t f r j b s kv hb hs hkv
  have eg := conv_tie m c f r j b s kg (iblk m c 9 t) (iblk m c 11 t) _ _ _
    (fun i => blk_cwg m c t f i j kg (hkg.trans (by omega))) (blk_cbg m c t f j kg (hkg.trans (by omega))) (ug r s hs)
    (rows_padded m c t (iblk m c 7 t) (tH m c t) c1 f j kg b hb ug (fun hz r => (h0 hz f r j).1)
      (fun hz r s hs => (h1 hz f r j b s hb hs).1 kg hkg) 6 r s hs ⟨s.val, by omega⟩ rfl (le_refl 6))
    (rows_padded m c t (iblk m c 7 t) (tH m c t) c1 f j kg b hb ug (fun hz r => (h0 hz f r j).1)
      (fun hz r s hs => (h1 hz f r j b s hb hs).1 kg hkg) 7 r s hs ⟨1 + s.val, by omega⟩ (by show 1 + s.val + 6 = s.val + 7; omega) (by decide))
  have ev := conv_tie m c f r j b s kv (iblk m c 10 t) (iblk m c 12 t) _ _ _
    (fun i => blk_cwv m c t f i j kv hkv) (blk_cbv m c t f j kv hkv) (uv r s hs)
    (rows_padded m c t (iblk m c 8 t) (tH m c t) c2 f j kv b hb uv (fun hz r => (h0 hz f r j).2)
      (fun hz r s hs => (h1 hz f r j b s hb hs).2 kv hkv) 6 r s hs ⟨s.val, by omega⟩ rfl (le_refl 6))
    (rows_padded m c t (iblk m c 8 t) (tH m c t) c2 f j kv b hb uv (fun hz r => (h0 hz f r j).2)
      (fun hz r s hs => (h1 hz f r j b s hb hs).2 kv hkv) 7 r s hs ⟨1 + s.val, by omega⟩ (by show 1 + s.val + 6 = s.val + 7; omega) (by decide))
  refine (actG_at _ _ _ _ _ _ _ _ _ f r j (aC m c (ix3 b s kg)) eg.symm).trans ?_
  rw [ev, Cert.Common.ofBits_half, Cert.Common.silu_real _ (h.conv b s kg (by omega))]
  refine Eq.trans ?_ (Cert.ReferenceIdeal.Ffn.unit_at (aC m c) b s _).symm
  have i1 : kg = (⟨j.val + 256 * f.val, by omega⟩ : Fin 5632) := Fin.ext (show kg.val = j.val + 256 * f.val by omega)
  have i2 : kv = (⟨2816 + (j.val + 256 * f.val), by omega⟩ : Fin 5632) := Fin.ext (show kv.val = 2816 + (j.val + 256 * f.val) by omega)
  exact congrArg₂ (· * ·) (congrArg (fun z => aC m c (ix3 b s z) * Ideal.div 1 (1 + Ideal.exp (-aC m c (ix3 b s z)))) i1)
    (congrArg (fun z => aC m c (ix3 b s z)) i2)

/-- The output block of a grid point is the reference's result at the tile's rows. -/
theorem GateReal.out (h : GateReal m c) (t : Fin cfg0.N) (r : Fin 512) (d : Fin 1024) (b : Fin 32) (s : Fin 2048) (hb : b.val = t.val / 4)
    (hs : s.val = 512 * (t.val % 4) + r.val) : (outsAt0 m c t.val t.isLt).1 (ix3 0 r d) = aOut m c (ix3 b s d) := by
  obtain ⟨c1, c2, e, h0, h1⟩ := left_out m c t
  rw [e]
  unfold aOut
  refine (downAll_at _ _ _ r d).trans (Eq.trans ?_ (Cert.ReferenceIdeal.Ffn.outp_at (aR m c) (unit (aC m c)) (aWd m c) b s d).symm)
  refine congrArg₂ (· + ·) (tR_at m c t r d b s hb hs) (Eq.trans ?_ (Cert.Common.sum_tiles 11 256
    (fun k : Fin (11 * 256) => unit (aC m c) (ix3 b s k) * aWd m c (ix2 k d))).symm)
  refine Finset.sum_congr rfl fun f _ => Finset.sum_congr rfl fun j _ => ?_
  exact congrArg₂ (· * ·) (h.act t c1 c2 h0 h1 f r j b s hb hs) (blk_wd m c t _ d)

end Cert.KernelIdeal.Ffn
-- ==== Proof.Ffn.Final.lean ====
module

public import proofs.«01_k».proof.Proof.Ffn.Gate
public import proofs.«01_k».proof.Proof.Gen.KernelIdeal.Value

/-!
The output array after the run is the reference's result: the grid points' blocks tile it.
-/

@[expose] public section

set_option maxRecDepth 16384

noncomputable section

namespace Cert.KernelIdeal.Ffn

open Idealize Idealize.ShloMosaic Cert.KernelIdeal Cert.KernelIdeal.Gen

variable {m : (ℓ : Loc nD τ sig) → Buf (Elt Ideal) ℓ} {c : Dev nD}

set_option maxHeartbeats 400000 in
/-- The output array is the reference's result over the argument arrays. -/
theorem GateReal.array (h : GateReal m c) : (dats m 0 c).arrAt 14 cfg0.N = aOut m c := by
  refine (dats m 0 c).arrAt_eq_of_covers 14 _ (by decide +kernel) fun t _ y => ?_
  blk_simp
  rw [after0_14]
  obtain ⟨z, r, d, rfl⟩ : ∃ (z : Fin 1) (r : Fin 512) (d : Fin 1024), y = ix3 z r d := ⟨y 0, y 1, y 2, by funext a; fin_cases a <;> rfl⟩
  obtain ⟨-, -, -, -, -, e⟩ := idx_rows t
  have ht : t.val < 128 := t.isLt
  have hz : z = 0 := Subsingleton.elim _ _
  subst hz
  refine (h.out t r d (⟨t.val / 4, by omega⟩ : Fin 32) (⟨512 * (t.val % 4) + r.val, by omega⟩ : Fin 2048) rfl rfl).trans (congrArg (aOut m c) ?_)
  funext a
  apply Fin.ext
  match a with
  | ⟨0, _⟩ =>
    show t.val / 4 = win0_14.index t (0 : Fin 3) * 1 + 1 * 0
    rw [e]
    show t.val / 4 = t.val / 4 * 1 + 1 * 0
    omega
  | ⟨1, _⟩ =>
    show 512 * (t.val % 4) + r.val = win0_14.index t (1 : Fin 3) * 512 + 1 * r.val
    rw [e]
    show 512 * (t.val % 4) + r.val = t.val % 4 * 512 + 1 * r.val
    omega
  | ⟨2, _⟩ =>
    show d.val = win0_14.index t (2 : Fin 3) * 1024 + 1 * d.val
    rw [e]
    show d.val = 0 * 1024 + 1 * d.val
    omega

/-- The same of the name the run's value gives the output array. -/
theorem GateReal.value (h : GateReal m c) : Cert.KernelIdeal.Value.G14 m c = aOut m c := (Cert.KernelIdeal.Value.final14 m c).symm.trans h.array

end Cert.KernelIdeal.Ffn
-- ==== Proof.Ffn.Finite.lean ====
module

public import proofs.«01_k».proof.Defs
public import proofs.«01_k».proof.Proof.Ffn.Gate

/-!
The stated precondition gives that the gate's parameters are real: an entry whose magnitude is below infinity is real.
-/

@[expose] public section

set_option maxRecDepth 16384

noncomputable section

namespace Cert.KernelIdeal.Ffn

open Idealize Idealize.ShloMosaic Cert.KernelIdeal Cert.KernelIdeal.Gen
open Cert.Common (IsReal)

/-- The shape facts the precondition's program states. -/
theorem preFacts : Cert.Pre_finite_gate.Facts := by
  constructor <;> decide

/-- A number whose magnitude compares below infinity is real. -/
theorem isReal_of_lt (x : EReal) (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  have hlt : max x (-x) < ⊤ := by
    by_contra hn
    simp [Ideal.cmp, hn] at h
  refine Cert.Common.isReal_iff.2 ⟨?_, ?_⟩
  · rintro rfl
    simp at hlt
  · rintro rfl
    simp at hlt

/-- The precondition gives the gate's parameters real. -/
theorem gateReal (m : (ℓ : Loc nD τ sig) → Buf (Elt Ideal) ℓ) (h : Cert.Pre_KernelIdeal_finite_gate (hPre_finite_gate := preFacts) m)
    (c : Dev nD) : GateReal m c := by
  obtain ⟨h1, h2, h3, h4⟩ := h c
  refine ⟨fun d => ?_, fun d k hk => ?_, fun i k hk => ?_, fun k hk => ?_⟩
  · exact isReal_of_lt _ (congrFun h1 (ix1 d))
  · refine isReal_of_lt _ (Eq.trans ?_ (congrFun h2 (ix2 d (⟨k.val, hk⟩ : Fin 2816))))
    pointwise [Cert.Pre_finite_gate.fn]
    rfl
  · refine isReal_of_lt _ (Eq.trans ?_ (congrFun h3 (ix2 i (⟨k.val, hk⟩ : Fin 2816))))
    pointwise [Cert.Pre_finite_gate.fn]
    rfl
  · refine isReal_of_lt _ (Eq.trans ?_ (congrFun h4 (ix1 (⟨k.val, hk⟩ : Fin 2816))))
    pointwise [Cert.Pre_finite_gate.fn]
    rfl

end Cert.KernelIdeal.Ffn
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Ffn.Final
public import proofs.«01_k».proof.Proof.Ffn.Finite
public import Idealize.ShloMosaic.Adequacy
public import Idealize.ShloMosaic.Init
public import Idealize.ShloMosaic.Lib.Quiescent

@[expose] public section

noncomputable section

namespace Cert.Proof

open Idealize.ShloMosaic Idealize.SL.Sem

/-- The reference runs and leaves its arguments alone. -/
theorem quiescent_ReferenceIdeal : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same from memories that meet the precondition. -/
theorem quiescent_ReferenceIdeal_pre : Cert.quiescent_ReferenceIdeal_pre_finite_gate (hReferenceIdeal := Cert.ReferenceIdeal.Gen.facts)
    (hPre_finite_gate := Cert.KernelIdeal.Ffn.preFacts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel's real-number form leaves the reference's result, where the gate's parameters are finite. -/
theorem algebraic : Cert.algebraic_KernelIdeal_ReferenceIdeal_pre_finite_gate (hKernelIdeal := Cert.KernelIdeal.Gen.facts)
    (hReferenceIdeal := Cert.ReferenceIdeal.Gen.facts) (hPre_finite_gate := Cert.KernelIdeal.Ffn.preFacts) := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1, Cert.ReferenceIdeal.Ffn.res_eq]
  simp only [hagree c]
  exact (Cert.KernelIdeal.Ffn.gateReal m hpre c).value.symm

/-- Everything claimed. -/
theorem claim : Cert.Claim := ⟨Cert.Kernel.Gen.facts, Cert.KernelIdeal.Gen.facts, Cert.ReferenceIdeal.Gen.facts, Cert.KernelIdeal.Ffn.preFacts,
  fun m ρ _ => Cert.Kernel.Gen.frame m ρ, fun m ρ _ => Cert.KernelIdeal.Gen.frame m ρ, fun m ρ _ => Cert.KernelIdeal.Gen.frame m ρ,
  quiescent_ReferenceIdeal, quiescent_ReferenceIdeal_pre, (trivial : Cert.preserves_Kernel_KernelIdeal), algebraic⟩

end Cert.Proof

end
